-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S64 : Shape := ⟨1, ![64]⟩
abbrev S1x64 : Shape := ⟨2, ![1, 64]⟩
abbrev S4x16x2048 : Shape := ⟨3, ![4, 16, 2048]⟩
abbrev S4x2 : Shape := ⟨2, ![4, 2]⟩
abbrev S64x1 : Shape := ⟨2, ![64, 1]⟩
abbrev S16x1 : Shape := ⟨2, ![16, 1]⟩
abbrev S16x2048 : Shape := ⟨2, ![16, 2048]⟩
abbrev S1x16x2048 : Shape := ⟨3, ![1, 16, 2048]⟩
abbrev S1x1 : Shape := ⟨2, ![1, 1]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S64x2048, .i32⟩
  | .hbm, ⟨1, _⟩ => ⟨S64x2048, .i32⟩
  | .hbm, ⟨2, _⟩ => ⟨S64x2048, .i1⟩
  | .hbm, ⟨3, _⟩ => ⟨S64, .f32⟩
  | .hbm, ⟨4, _⟩ => ⟨S64x2048, .f32⟩
  | .hbm, ⟨5, _⟩ => ⟨S1x64, .f32⟩
  | .hbm, ⟨6, _⟩ => ⟨S64x2048, .i32⟩
  | .hbm, ⟨7, _⟩ => ⟨S64x2048, .i32⟩
  | .hbm, ⟨8, _⟩ => ⟨S64x2048, .i32⟩
  | .local _ .vmem, ⟨0, _⟩ => ⟨S64x2048, .i32⟩
  | .local _ .vmem, ⟨1, _⟩ => ⟨S64x2048, .i32⟩
  | .local _ .vmem, ⟨2, _⟩ => ⟨S64x2048, .i32⟩
  | .local _ .vmem, ⟨3, _⟩ => ⟨S1x64, .f32⟩
  | .local _ .vmem, ⟨4, _⟩ => ⟨S64x2048, .f32⟩
  | .local _ .vmem, ⟨5, _⟩ => ⟨S4x16x2048, .i32⟩
  | .local _ .vmem, ⟨6, _⟩ => ⟨S4x16x2048, .i32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S64x2048 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x2048 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S64x2048 : Shape := ⟨2, ![64, 2048]⟩
abbrev S64 : Shape := ⟨1, ![64]⟩
abbrev S_ : Shape := ⟨0, ![]⟩
abbrev S1 : Shape := ⟨1, ![1]⟩
abbrev S2 : Shape := ⟨1, ![2]⟩
abbrev S1x1 : Shape := ⟨2, ![1, 1]⟩
abbrev S64x1 : Shape := ⟨2, ![64, 1]⟩

abbrev nBuf : Space → Nat
  | .hbm => 293
  | .vmem => 0
  | .smem => 0
  | _ => 0

abbrev hbmTy0_0 (i : Nat) : BufTy := match i % 128 with
  | 0 => ⟨S64x2048, .i32⟩
  | 1 => ⟨S64x2048, .i32⟩
  | 2 => ⟨S64x2048, .i1⟩
  | 3 => ⟨S64, .f32⟩
  | 4 => ⟨S_, .i32⟩
  | 5 => ⟨S_, .i32⟩
  | 6 => ⟨S_, .i32⟩
  | 7 => ⟨S_, .i32⟩
  | 8 => ⟨S1, .i32⟩
  | 9 => ⟨S_, .i32⟩
  | 10 => ⟨S_, .i32⟩
  | 11 => ⟨S_, .i32⟩
  | 12 => ⟨S1, .i32⟩
  | 13 => ⟨S2, .i32⟩
  | 14 => ⟨S_, .f32⟩
  | 15 => ⟨S_, .f32⟩
  | 16 => ⟨S_, .f32⟩
  | 17 => ⟨S_, .f32⟩
  | 18 => ⟨S1x1, .f32⟩
  | 19 => ⟨S1x1, .f32⟩
  | 20 => ⟨S1, .i32⟩
  | 21 => ⟨S_, .i32⟩
  | 22 => ⟨S1, .i32⟩
  | 23 => ⟨S_, .i32⟩
  | 24 => ⟨S64x2048, .i64⟩
  | 25 => ⟨S64x2048, .i64⟩
  | 26 => ⟨S_, .i64⟩
  | 27 => ⟨S64x2048, .i64⟩
  | 28 => ⟨S64x2048, .i64⟩
  | 29 => ⟨S_, .i64⟩
  | 30 => ⟨S64x2048, .i64⟩
  | 31 => ⟨S64x2048, .i64⟩
  | 32 => ⟨S64x2048, .i64⟩
  | 33 => ⟨S_, .i64⟩
  | 34 => ⟨S64x2048, .i64⟩
  | 35 => ⟨S64x2048, .i64⟩
  | 36 => ⟨S64x2048, .i32⟩
  | 37 => ⟨S64x2048, .i32⟩
  | 38 => ⟨S_, .i32⟩
  | 39 => ⟨S_, .i32⟩
  | 40 => ⟨S_, .i32⟩
  | 41 => ⟨S64x2048, .i32⟩
  | 42 => ⟨S64x2048, .i32⟩
  | 43 => ⟨S64x2048, .i32⟩
  | 44 => ⟨S64x2048, .i32⟩
  | 45 => ⟨S64x2048, .i32⟩
  | 46 => ⟨S_, .i32⟩
  | 47 => ⟨S64x2048, .i32⟩
  | 48 => ⟨S64x2048, .i32⟩
  | 49 => ⟨S_, .i32⟩
  | 50 => ⟨S64x2048, .i32⟩
  | 51 => ⟨S64x2048, .i32⟩
  | 52 => ⟨S64x2048, .i32⟩
  | 53 => ⟨S64x2048, .i32⟩
  | 54 => ⟨S64x2048, .i32⟩
  | 55 => ⟨S_, .i32⟩
  | 56 => ⟨S64x2048, .i32⟩
  | 57 => ⟨S64x2048, .i32⟩
  | 58 => ⟨S_, .i32⟩
  | 59 => ⟨S64x2048, .i32⟩
  | 60 => ⟨S64x2048, .i32⟩
  | 61 => ⟨S64x2048, .i32⟩
  | 62 => ⟨S64x2048, .i32⟩
  | 63 => ⟨S64x2048, .i32⟩
  | 64 => ⟨S_, .i32⟩
  | 65 => ⟨S64x2048, .i32⟩
  | 66 => ⟨S64x2048, .i32⟩
  | 67 => ⟨S_, .i32⟩
  | 68 => ⟨S64x2048, .i32⟩
  | 69 => ⟨S64x2048, .i32⟩
  | 70 => ⟨S64x2048, .i32⟩
  | 71 => ⟨S64x2048, .i32⟩
  | 72 => ⟨S64x2048, .i32⟩
  | 73 => ⟨S_, .i32⟩
  | 74 => ⟨S64x2048, .i32⟩
  | 75 => ⟨S64x2048, .i32⟩
  | 76 => ⟨S_, .i32⟩
  | 77 => ⟨S64x2048, .i32⟩
  | 78 => ⟨S64x2048, .i32⟩
  | 79 => ⟨S64x2048, .i32⟩
  | 80 => ⟨S64x2048, .i32⟩
  | 81 => ⟨S64x2048, .i32⟩
  | 82 => ⟨S64x2048, .i32⟩
  | 83 => ⟨S64x2048, .i32⟩
  | 84 => ⟨S64x2048, .i32⟩
  | 85 => ⟨S_, .i32⟩
  | 86 => ⟨S64x2048, .i32⟩
  | 87 => ⟨S64x2048, .i32⟩
  | 88 => ⟨S64x2048, .i32⟩
  | 89 => ⟨S_, .i32⟩
  | 90 => ⟨S64x2048, .i32⟩
  | 91 => ⟨S64x2048, .i32⟩
  | 92 => ⟨S_, .i32⟩
  | 93 => ⟨S64x2048, .i32⟩
  | 94 => ⟨S64x2048, .i32⟩
  | 95 => ⟨S64x2048, .i32⟩
  | 96 => ⟨S64x2048, .i32⟩
  | 97 => ⟨S64x2048, .i32⟩
  | 98 => ⟨S_, .i32⟩
  | 99 => ⟨S64x2048, .i32⟩
  | 100 => ⟨S64x2048, .i32⟩
  | 101 => ⟨S_, .i32⟩
  | 102 => ⟨S64x2048, .i32⟩
  | 103 => ⟨S64x2048, .i32⟩
  | 104 => ⟨S64x2048, .i32⟩
  | 105 => ⟨S64x2048, .i32⟩
  | 106 => ⟨S64x2048, .i32⟩
  | 107 => ⟨S_, .i32⟩
  | 108 => ⟨S64x2048, .i32⟩
  | 109 => ⟨S64x2048, .i32⟩
  | 110 => ⟨S_, .i32⟩
  | 111 => ⟨S64x2048, .i32⟩
  | 112 => ⟨S64x2048, .i32⟩
  | 113 => ⟨S64x2048, .i32⟩
  | 114 => ⟨S64x2048, .i32⟩
  | 115 => ⟨S64x2048, .i32⟩
  | 116 => ⟨S_, .i32⟩
  | 117 => ⟨S64x2048, .i32⟩
  | 118 => ⟨S64x2048, .i32⟩
  | 119 => ⟨S_, .i32⟩
  | 120 => ⟨S64x2048, .i32⟩
  | 121 => ⟨S64x2048, .i32⟩
  | 122 => ⟨S64x2048, .i32⟩
  | 123 => ⟨S64x2048, .i32⟩
  | 124 => ⟨S64x2048, .i32⟩
  | 125 => ⟨S64x2048, .i32⟩
  | 126 => ⟨S64x2048, .i32⟩
  | 127 => ⟨S64x2048, .i32⟩
  | _ => ⟨S64x2048, .i32⟩

abbrev hbmTy0_1 (i : Nat) : BufTy := match i % 128 with
  | 0 => ⟨S_, .i32⟩
  | 1 => ⟨S64x2048, .i32⟩
  | 2 => ⟨S64x2048, .i32⟩
  | 3 => ⟨S64x2048, .i32⟩
  | 4 => ⟨S_, .i32⟩
  | 5 => ⟨S64x2048, .i32⟩
  | 6 => ⟨S64x2048, .i32⟩
  | 7 => ⟨S_, .i32⟩
  | 8 => ⟨S64x2048, .i32⟩
  | 9 => ⟨S64x2048, .i32⟩
  | 10 => ⟨S64x2048, .i32⟩
  | 11 => ⟨S64x2048, .i32⟩
  | 12 => ⟨S64x2048, .i32⟩
  | 13 => ⟨S_, .i32⟩
  | 14 => ⟨S64x2048, .i32⟩
  | 15 => ⟨S64x2048, .i32⟩
  | 16 => ⟨S_, .i32⟩
  | 17 => ⟨S64x2048, .i32⟩
  | 18 => ⟨S64x2048, .i32⟩
  | 19 => ⟨S64x2048, .i32⟩
  | 20 => ⟨S64x2048, .i32⟩
  | 21 => ⟨S64x2048, .i32⟩
  | 22 => ⟨S_, .i32⟩
  | 23 => ⟨S64x2048, .i32⟩
  | 24 => ⟨S64x2048, .i32⟩
  | 25 => ⟨S_, .i32⟩
  | 26 => ⟨S64x2048, .i32⟩
  | 27 => ⟨S64x2048, .i32⟩
  | 28 => ⟨S64x2048, .i32⟩
  | 29 => ⟨S64x2048, .i32⟩
  | 30 => ⟨S64x2048, .i32⟩
  | 31 => ⟨S_, .i32⟩
  | 32 => ⟨S64x2048, .i32⟩
  | 33 => ⟨S64x2048, .i32⟩
  | 34 => ⟨S_, .i32⟩
  | 35 => ⟨S64x2048, .i32⟩
  | 36 => ⟨S64x2048, .i32⟩
  | 37 => ⟨S64x2048, .i32⟩
  | 38 => ⟨S64x2048, .i32⟩
  | 39 => ⟨S64x2048, .i32⟩
  | 40 => ⟨S64x2048, .i32⟩
  | 41 => ⟨S64x2048, .i32⟩
  | 42 => ⟨S64x2048, .i32⟩
  | 43 => ⟨S_, .i32⟩
  | 44 => ⟨S64x2048, .i32⟩
  | 45 => ⟨S64x2048, .i32⟩
  | 46 => ⟨S64x2048, .i32⟩
  | 47 => ⟨S_, .i32⟩
  | 48 => ⟨S64x2048, .i32⟩
  | 49 => ⟨S64x2048, .i32⟩
  | 50 => ⟨S_, .i32⟩
  | 51 => ⟨S64x2048, .i32⟩
  | 52 => ⟨S64x2048, .i32⟩
  | 53 => ⟨S64x2048, .i32⟩
  | 54 => ⟨S64x2048, .i32⟩
  | 55 => ⟨S64x2048, .i32⟩
  | 56 => ⟨S_, .i32⟩
  | 57 => ⟨S64x2048, .i32⟩
  | 58 => ⟨S64x2048, .i32⟩
  | 59 => ⟨S_, .i32⟩
  | 60 => ⟨S64x2048, .i32⟩
  | 61 => ⟨S64x2048, .i32⟩
  | 62 => ⟨S64x2048, .i32⟩
  | 63 => ⟨S64x2048, .i32⟩
  | 64 => ⟨S64x2048, .i32⟩
  | 65 => ⟨S_, .i32⟩
  | 66 => ⟨S64x2048, .i32⟩
  | 67 => ⟨S64x2048, .i32⟩
  | 68 => ⟨S_, .i32⟩
  | 69 => ⟨S64x2048, .i32⟩
  | 70 => ⟨S64x2048, .i32⟩
  | 71 => ⟨S64x2048, .i32⟩
  | 72 => ⟨S64x2048, .i32⟩
  | 73 => ⟨S64x2048, .i32⟩
  | 74 => ⟨S_, .i32⟩
  | 75 => ⟨S64x2048, .i32⟩
  | 76 => ⟨S64x2048, .i32⟩
  | 77 => ⟨S_, .i32⟩
  | 78 => ⟨S64x2048, .i32⟩
  | 79 => ⟨S64x2048, .i32⟩
  | 80 => ⟨S64x2048, .i32⟩
  | 81 => ⟨S64x2048, .i32⟩
  | 82 => ⟨S64x2048, .i32⟩
  | 83 => ⟨S64x2048, .i32⟩
  | 84 => ⟨S64x2048, .i32⟩
  | 85 => ⟨S64x2048, .i32⟩
  | 86 => ⟨S_, .i32⟩
  | 87 => ⟨S64x2048, .i32⟩
  | 88 => ⟨S64x2048, .i32⟩
  | 89 => ⟨S64x2048, .i32⟩
  | 90 => ⟨S_, .i32⟩
  | 91 => ⟨S64x2048, .i32⟩
  | 92 => ⟨S64x2048, .i32⟩
  | 93 => ⟨S_, .i32⟩
  | 94 => ⟨S64x2048, .i32⟩
  | 95 => ⟨S64x2048, .i32⟩
  | 96 => ⟨S64x2048, .i32⟩
  | 97 => ⟨S64x2048, .i32⟩
  | 98 => ⟨S64x2048, .i32⟩
  | 99 => ⟨S_, .i32⟩
  | 100 => ⟨S64x2048, .i32⟩
  | 101 => ⟨S64x2048, .i32⟩
  | 102 => ⟨S_, .i32⟩
  | 103 => ⟨S64x2048, .i32⟩
  | 104 => ⟨S64x2048, .i32⟩
  | 105 => ⟨S64x2048, .i32⟩
  | 106 => ⟨S64x2048, .i32⟩
  | 107 => ⟨S64x2048, .i32⟩
  | 108 => ⟨S_, .i32⟩
  | 109 => ⟨S64x2048, .i32⟩
  | 110 => ⟨S64x2048, .i32⟩
  | 111 => ⟨S_, .i32⟩
  | 112 => ⟨S64x2048, .i32⟩
  | 113 => ⟨S64x2048, .i32⟩
  | 114 => ⟨S64x2048, .i32⟩
  | 115 => ⟨S64x2048, .i32⟩
  | 116 => ⟨S64x2048, .i32⟩
  | 117 => ⟨S_, .i32⟩
  | 118 => ⟨S64x2048, .i32⟩
  | 119 => ⟨S64x2048, .i32⟩
  | 120 => ⟨S_, .i32⟩
  | 121 => ⟨S64x2048, .i32⟩
  | 122 => ⟨S64x2048, .i32⟩
  | 123 => ⟨S64x2048, .i32⟩
  | 124 => ⟨S64x2048, .i32⟩
  | 125 => ⟨S64x2048, .i32⟩
  | 126 => ⟨S64x2048, .i32⟩
  | 127 => ⟨S64x2048, .i32⟩
  | _ => ⟨S64x2048, .i32⟩

abbrev hbmTy0_2 (i : Nat) : BufTy := match i % 128 with
  | 0 => ⟨S64x2048, .i32⟩
  | 1 => ⟨S_, .i32⟩
  | 2 => ⟨S64x2048, .i32⟩
  | 3 => ⟨S64x2048, .i32⟩
  | 4 => ⟨S64x2048, .i32⟩
  | 5 => ⟨S_, .i32⟩
  | 6 => ⟨S64x2048, .i32⟩
  | 7 => ⟨S64x2048, .i32⟩
  | 8 => ⟨S_, .i32⟩
  | 9 => ⟨S64x2048, .i32⟩
  | 10 => ⟨S64x2048, .i32⟩
  | 11 => ⟨S64x2048, .f32⟩
  | 12 => ⟨S_, .f32⟩
  | 13 => ⟨S64x2048, .f32⟩
  | 14 => ⟨S64x2048, .f32⟩
  | 15 => ⟨S1x1, .f32⟩
  | 16 => ⟨S64x2048, .f32⟩
  | 17 => ⟨S64x2048, .f32⟩
  | 18 => ⟨S64x2048, .f32⟩
  | 19 => ⟨S64x2048, .f32⟩
  | 20 => ⟨S64x2048, .f32⟩
  | 21 => ⟨S64x2048, .f32⟩
  | 22 => ⟨S64x1, .f32⟩
  | 23 => ⟨S_, .f32⟩
  | 24 => ⟨S64x1, .f32⟩
  | 25 => ⟨S64x1, .f32⟩
  | 26 => ⟨S64x2048, .f32⟩
  | 27 => ⟨S64x2048, .i1⟩
  | 28 => ⟨S64x2048, .i1⟩
  | 29 => ⟨S_, .i32⟩
  | 30 => ⟨S_, .i32⟩
  | 31 => ⟨S64x2048, .i32⟩
  | 32 => ⟨S64x2048, .i32⟩
  | 33 => ⟨S_, .i32⟩
  | 34 => ⟨S_, .i32⟩
  | 35 => ⟨S64x2048, .i32⟩
  | 36 => ⟨S64x2048, .i32⟩
  | _ => ⟨S64x2048, .i32⟩

abbrev hbmTy (i : Nat) : BufTy := match i / 128 with
  | 0 => hbmTy0_0 i
  | 1 => hbmTy0_1 i
  | 2 => hbmTy0_2 i
  | _ => ⟨S64x2048, .i32⟩

abbrev bufTy : (tb : Table) → Fin (tcTables nBuf tb) → BufTy
  | .hbm, ⟨i, _⟩ => hbmTy i
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_c : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_c_1 : Ref sig .tc := ⟨.hbm, 33, rfl⟩
abbrev main_call0_v15 : Ref sig .tc := ⟨.hbm, 34, rfl⟩
abbrev main_call0_v16 : Ref sig .tc := ⟨.hbm, 35, rfl⟩
abbrev main_call0_v17 : Ref sig .tc := ⟨.hbm, 36, rfl⟩
abbrev main_call0_v18 : Ref sig .tc := ⟨.hbm, 37, rfl⟩
abbrev main_call0_call0_v0 : Ref sig .tc := ⟨.hbm, 38, rfl⟩
abbrev main_call0_call0_c : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_c_0 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_c_1 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_v12 : Ref sig .tc := ⟨.hbm, 53, rfl⟩
abbrev main_call0_call0_v13 : Ref sig .tc := ⟨.hbm, 54, rfl⟩
abbrev main_call0_call0_c_2 : Ref sig .tc := ⟨.hbm, 55, rfl⟩
abbrev main_call0_call0_v14 : Ref sig .tc := ⟨.hbm, 56, rfl⟩
abbrev main_call0_call0_v15 : Ref sig .tc := ⟨.hbm, 57, rfl⟩
abbrev main_call0_call0_c_3 : Ref sig .tc := ⟨.hbm, 58, rfl⟩
abbrev main_call0_call0_v16 : Ref sig .tc := ⟨.hbm, 59, rfl⟩
abbrev main_call0_call0_v17 : Ref sig .tc := ⟨.hbm, 60, rfl⟩
abbrev main_call0_call0_v18 : Ref sig .tc := ⟨.hbm, 61, rfl⟩
abbrev main_call0_call0_v19 : Ref sig .tc := ⟨.hbm, 62, rfl⟩
abbrev main_call0_call0_v20 : Ref sig .tc := ⟨.hbm, 63, rfl⟩
abbrev main_call0_call0_c_4 : Ref sig .tc := ⟨.hbm, 64, rfl⟩
abbrev main_call0_call0_v21 : Ref sig .tc := ⟨.hbm, 65, rfl⟩
abbrev main_call0_call0_v22 : Ref sig .tc := ⟨.hbm, 66, rfl⟩
abbrev main_call0_call0_c_5 : Ref sig .tc := ⟨.hbm, 67, rfl⟩
abbrev main_call0_call0_v23 : Ref sig .tc := ⟨.hbm, 68, rfl⟩
abbrev main_call0_call0_v24 : Ref sig .tc := ⟨.hbm, 69, rfl⟩
abbrev main_call0_call0_v25 : Ref sig .tc := ⟨.hbm, 70, rfl⟩
abbrev main_call0_call0_v26 : Ref sig .tc := ⟨.hbm, 71, rfl⟩
abbrev main_call0_call0_v27 : Ref sig .tc := ⟨.hbm, 72, rfl⟩
abbrev main_call0_call0_c_6 : Ref sig .tc := ⟨.hbm, 73, rfl⟩
abbrev main_call0_call0_v28 : Ref sig .tc := ⟨.hbm, 74, rfl⟩
abbrev main_call0_call0_v29 : Ref sig .tc := ⟨.hbm, 75, rfl⟩
abbrev main_call0_call0_c_7 : Ref sig .tc := ⟨.hbm, 76, rfl⟩
abbrev main_call0_call0_v30 : Ref sig .tc := ⟨.hbm, 77, rfl⟩
abbrev main_call0_call0_v31 : Ref sig .tc := ⟨.hbm, 78, rfl⟩
abbrev main_call0_call0_v32 : Ref sig .tc := ⟨.hbm, 79, rfl⟩
abbrev main_call0_call0_v33 : Ref sig .tc := ⟨.hbm, 80, rfl⟩
abbrev main_call0_call0_v34 : Ref sig .tc := ⟨.hbm, 81, rfl⟩
abbrev main_call0_call0_v35 : Ref sig .tc := ⟨.hbm, 82, rfl⟩
abbrev main_call0_call0_v36 : Ref sig .tc := ⟨.hbm, 83, rfl⟩
abbrev main_call0_call0_v37 : Ref sig .tc := ⟨.hbm, 84, rfl⟩
abbrev main_call0_call0_c_8 : Ref sig .tc := ⟨.hbm, 85, rfl⟩
abbrev main_call0_call0_v38 : Ref sig .tc := ⟨.hbm, 86, rfl⟩
abbrev main_call0_call0_v39 : Ref sig .tc := ⟨.hbm, 87, rfl⟩
abbrev main_call0_call0_v40 : Ref sig .tc := ⟨.hbm, 88, rfl⟩
abbrev main_call0_call0_c_9 : Ref sig .tc := ⟨.hbm, 89, rfl⟩
abbrev main_call0_call0_v41 : Ref sig .tc := ⟨.hbm, 90, rfl⟩
abbrev main_call0_call0_v42 : Ref sig .tc := ⟨.hbm, 91, rfl⟩
abbrev main_call0_call0_c_10 : Ref sig .tc := ⟨.hbm, 92, rfl⟩
abbrev main_call0_call0_v43 : Ref sig .tc := ⟨.hbm, 93, rfl⟩
abbrev main_call0_call0_v44 : Ref sig .tc := ⟨.hbm, 94, rfl⟩
abbrev main_call0_call0_v45 : Ref sig .tc := ⟨.hbm, 95, rfl⟩
abbrev main_call0_call0_v46 : Ref sig .tc := ⟨.hbm, 96, rfl⟩
abbrev main_call0_call0_v47 : Ref sig .tc := ⟨.hbm, 97, rfl⟩
abbrev main_call0_call0_c_11 : Ref sig .tc := ⟨.hbm, 98, rfl⟩
abbrev main_call0_call0_v48 : Ref sig .tc := ⟨.hbm, 99, rfl⟩
abbrev main_call0_call0_v49 : Ref sig .tc := ⟨.hbm, 100, rfl⟩
abbrev main_call0_call0_c_12 : Ref sig .tc := ⟨.hbm, 101, rfl⟩
abbrev main_call0_call0_v50 : Ref sig .tc := ⟨.hbm, 102, rfl⟩
abbrev main_call0_call0_v51 : Ref sig .tc := ⟨.hbm, 103, rfl⟩
abbrev main_call0_call0_v52 : Ref sig .tc := ⟨.hbm, 104, rfl⟩
abbrev main_call0_call0_v53 : Ref sig .tc := ⟨.hbm, 105, rfl⟩
abbrev main_call0_call0_v54 : Ref sig .tc := ⟨.hbm, 106, rfl⟩
abbrev main_call0_call0_c_13 : Ref sig .tc := ⟨.hbm, 107, rfl⟩
abbrev main_call0_call0_v55 : Ref sig .tc := ⟨.hbm, 108, rfl⟩
abbrev main_call0_call0_v56 : Ref sig .tc := ⟨.hbm, 109, rfl⟩
abbrev main_call0_call0_c_14 : Ref sig .tc := ⟨.hbm, 110, rfl⟩
abbrev main_call0_call0_v57 : Ref sig .tc := ⟨.hbm, 111, rfl⟩
abbrev main_call0_call0_v58 : Ref sig .tc := ⟨.hbm, 112, rfl⟩
abbrev main_call0_call0_v59 : Ref sig .tc := ⟨.hbm, 113, rfl⟩
abbrev main_call0_call0_v60 : Ref sig .tc := ⟨.hbm, 114, rfl⟩
abbrev main_call0_call0_v61 : Ref sig .tc := ⟨.hbm, 115, rfl⟩
abbrev main_call0_call0_c_15 : Ref sig .tc := ⟨.hbm, 116, rfl⟩
abbrev main_call0_call0_v62 : Ref sig .tc := ⟨.hbm, 117, rfl⟩
abbrev main_call0_call0_v63 : Ref sig .tc := ⟨.hbm, 118, rfl⟩
abbrev main_call0_call0_c_16 : Ref sig .tc := ⟨.hbm, 119, rfl⟩
abbrev main_call0_call0_v64 : Ref sig .tc := ⟨.hbm, 120, rfl⟩
abbrev main_call0_call0_v65 : Ref sig .tc := ⟨.hbm, 121, rfl⟩
abbrev main_call0_call0_v66 : Ref sig .tc := ⟨.hbm, 122, rfl⟩
abbrev main_call0_call0_v67 : Ref sig .tc := ⟨.hbm, 123, rfl⟩
abbrev main_call0_call0_v68 : Ref sig .tc := ⟨.hbm, 124, rfl⟩
abbrev main_call0_call0_v69 : Ref sig .tc := ⟨.hbm, 125, rfl⟩
abbrev main_call0_call0_v70 : Ref sig .tc := ⟨.hbm, 126, rfl⟩
abbrev main_call0_call0_v71 : Ref sig .tc := ⟨.hbm, 127, rfl⟩
abbrev main_call0_call0_c_17 : Ref sig .tc := ⟨.hbm, 128, rfl⟩
abbrev main_call0_call0_v72 : Ref sig .tc := ⟨.hbm, 129, rfl⟩
abbrev main_call0_call0_v73 : Ref sig .tc := ⟨.hbm, 130, rfl⟩
abbrev main_call0_call0_v74 : Ref sig .tc := ⟨.hbm, 131, rfl⟩
abbrev main_call0_call0_c_18 : Ref sig .tc := ⟨.hbm, 132, rfl⟩
abbrev main_call0_call0_v75 : Ref sig .tc := ⟨.hbm, 133, rfl⟩
abbrev main_call0_call0_v76 : Ref sig .tc := ⟨.hbm, 134, rfl⟩
abbrev main_call0_call0_c_19 : Ref sig .tc := ⟨.hbm, 135, rfl⟩
abbrev main_call0_call0_v77 : Ref sig .tc := ⟨.hbm, 136, rfl⟩
abbrev main_call0_call0_v78 : Ref sig .tc := ⟨.hbm, 137, rfl⟩
abbrev main_call0_call0_v79 : Ref sig .tc := ⟨.hbm, 138, rfl⟩
abbrev main_call0_call0_v80 : Ref sig .tc := ⟨.hbm, 139, rfl⟩
abbrev main_call0_call0_v81 : Ref sig .tc := ⟨.hbm, 140, rfl⟩
abbrev main_call0_call0_c_20 : Ref sig .tc := ⟨.hbm, 141, rfl⟩
abbrev main_call0_call0_v82 : Ref sig .tc := ⟨.hbm, 142, rfl⟩
abbrev main_call0_call0_v83 : Ref sig .tc := ⟨.hbm, 143, rfl⟩
abbrev main_call0_call0_c_21 : Ref sig .tc := ⟨.hbm, 144, rfl⟩
abbrev main_call0_call0_v84 : Ref sig .tc := ⟨.hbm, 145, rfl⟩
abbrev main_call0_call0_v85 : Ref sig .tc := ⟨.hbm, 146, rfl⟩
abbrev main_call0_call0_v86 : Ref sig .tc := ⟨.hbm, 147, rfl⟩
abbrev main_call0_call0_v87 : Ref sig .tc := ⟨.hbm, 148, rfl⟩
abbrev main_call0_call0_v88 : Ref sig .tc := ⟨.hbm, 149, rfl⟩
abbrev main_call0_call0_c_22 : Ref sig .tc := ⟨.hbm, 150, rfl⟩
abbrev main_call0_call0_v89 : Ref sig .tc := ⟨.hbm, 151, rfl⟩
abbrev main_call0_call0_v90 : Ref sig .tc := ⟨.hbm, 152, rfl⟩
abbrev main_call0_call0_c_23 : Ref sig .tc := ⟨.hbm, 153, rfl⟩
abbrev main_call0_call0_v91 : Ref sig .tc := ⟨.hbm, 154, rfl⟩
abbrev main_call0_call0_v92 : Ref sig .tc := ⟨.hbm, 155, rfl⟩
abbrev main_call0_call0_v93 : Ref sig .tc := ⟨.hbm, 156, rfl⟩
abbrev main_call0_call0_v94 : Ref sig .tc := ⟨.hbm, 157, rfl⟩
abbrev main_call0_call0_v95 : Ref sig .tc := ⟨.hbm, 158, rfl⟩
abbrev main_call0_call0_c_24 : Ref sig .tc := ⟨.hbm, 159, rfl⟩
abbrev main_call0_call0_v96 : Ref sig .tc := ⟨.hbm, 160, rfl⟩
abbrev main_call0_call0_v97 : Ref sig .tc := ⟨.hbm, 161, rfl⟩
abbrev main_call0_call0_c_25 : Ref sig .tc := ⟨.hbm, 162, rfl⟩
abbrev main_call0_call0_v98 : Ref sig .tc := ⟨.hbm, 163, rfl⟩
abbrev main_call0_call0_v99 : Ref sig .tc := ⟨.hbm, 164, rfl⟩
abbrev main_call0_call0_v100 : Ref sig .tc := ⟨.hbm, 165, rfl⟩
abbrev main_call0_call0_v101 : Ref sig .tc := ⟨.hbm, 166, rfl⟩
abbrev main_call0_call0_v102 : Ref sig .tc := ⟨.hbm, 167, rfl⟩
abbrev main_call0_call0_v103 : Ref sig .tc := ⟨.hbm, 168, rfl⟩
abbrev main_call0_call0_v104 : Ref sig .tc := ⟨.hbm, 169, rfl⟩
abbrev main_call0_call0_v105 : Ref sig .tc := ⟨.hbm, 170, rfl⟩
abbrev main_call0_call0_c_26 : Ref sig .tc := ⟨.hbm, 171, rfl⟩
abbrev main_call0_call0_v106 : Ref sig .tc := ⟨.hbm, 172, rfl⟩
abbrev main_call0_call0_v107 : Ref sig .tc := ⟨.hbm, 173, rfl⟩
abbrev main_call0_call0_v108 : Ref sig .tc := ⟨.hbm, 174, rfl⟩
abbrev main_call0_call0_c_27 : Ref sig .tc := ⟨.hbm, 175, rfl⟩
abbrev main_call0_call0_v109 : Ref sig .tc := ⟨.hbm, 176, rfl⟩
abbrev main_call0_call0_v110 : Ref sig .tc := ⟨.hbm, 177, rfl⟩
abbrev main_call0_call0_c_28 : Ref sig .tc := ⟨.hbm, 178, rfl⟩
abbrev main_call0_call0_v111 : Ref sig .tc := ⟨.hbm, 179, rfl⟩
abbrev main_call0_call0_v112 : Ref sig .tc := ⟨.hbm, 180, rfl⟩
abbrev main_call0_call0_v113 : Ref sig .tc := ⟨.hbm, 181, rfl⟩
abbrev main_call0_call0_v114 : Ref sig .tc := ⟨.hbm, 182, rfl⟩
abbrev main_call0_call0_v115 : Ref sig .tc := ⟨.hbm, 183, rfl⟩
abbrev main_call0_call0_c_29 : Ref sig .tc := ⟨.hbm, 184, rfl⟩
abbrev main_call0_call0_v116 : Ref sig .tc := ⟨.hbm, 185, rfl⟩
abbrev main_call0_call0_v117 : Ref sig .tc := ⟨.hbm, 186, rfl⟩
abbrev main_call0_call0_c_30 : Ref sig .tc := ⟨.hbm, 187, rfl⟩
abbrev main_call0_call0_v118 : Ref sig .tc := ⟨.hbm, 188, rfl⟩
abbrev main_call0_call0_v119 : Ref sig .tc := ⟨.hbm, 189, rfl⟩
abbrev main_call0_call0_v120 : Ref sig .tc := ⟨.hbm, 190, rfl⟩
abbrev main_call0_call0_v121 : Ref sig .tc := ⟨.hbm, 191, rfl⟩
abbrev main_call0_call0_v122 : Ref sig .tc := ⟨.hbm, 192, rfl⟩
abbrev main_call0_call0_c_31 : Ref sig .tc := ⟨.hbm, 193, rfl⟩
abbrev main_call0_call0_v123 : Ref sig .tc := ⟨.hbm, 194, rfl⟩
abbrev main_call0_call0_v124 : Ref sig .tc := ⟨.hbm, 195, rfl⟩
abbrev main_call0_call0_c_32 : Ref sig .tc := ⟨.hbm, 196, rfl⟩
abbrev main_call0_call0_v125 : Ref sig .tc := ⟨.hbm, 197, rfl⟩
abbrev main_call0_call0_v126 : Ref sig .tc := ⟨.hbm, 198, rfl⟩
abbrev main_call0_call0_v127 : Ref sig .tc := ⟨.hbm, 199, rfl⟩
abbrev main_call0_call0_v128 : Ref sig .tc := ⟨.hbm, 200, rfl⟩
abbrev main_call0_call0_v129 : Ref sig .tc := ⟨.hbm, 201, rfl⟩
abbrev main_call0_call0_c_33 : Ref sig .tc := ⟨.hbm, 202, rfl⟩
abbrev main_call0_call0_v130 : Ref sig .tc := ⟨.hbm, 203, rfl⟩
abbrev main_call0_call0_v131 : Ref sig .tc := ⟨.hbm, 204, rfl⟩
abbrev main_call0_call0_c_34 : Ref sig .tc := ⟨.hbm, 205, rfl⟩
abbrev main_call0_call0_v132 : Ref sig .tc := ⟨.hbm, 206, rfl⟩
abbrev main_call0_call0_v133 : Ref sig .tc := ⟨.hbm, 207, rfl⟩
abbrev main_call0_call0_v134 : Ref sig .tc := ⟨.hbm, 208, rfl⟩
abbrev main_call0_call0_v135 : Ref sig .tc := ⟨.hbm, 209, rfl⟩
abbrev main_call0_call0_v136 : Ref sig .tc := ⟨.hbm, 210, rfl⟩
abbrev main_call0_call0_v137 : Ref sig .tc := ⟨.hbm, 211, rfl⟩
abbrev main_call0_call0_v138 : Ref sig .tc := ⟨.hbm, 212, rfl⟩
abbrev main_call0_call0_v139 : Ref sig .tc := ⟨.hbm, 213, rfl⟩
abbrev main_call0_call0_c_35 : Ref sig .tc := ⟨.hbm, 214, rfl⟩
abbrev main_call0_call0_v140 : Ref sig .tc := ⟨.hbm, 215, rfl⟩
abbrev main_call0_call0_v141 : Ref sig .tc := ⟨.hbm, 216, rfl⟩
abbrev main_call0_call0_v142 : Ref sig .tc := ⟨.hbm, 217, rfl⟩
abbrev main_call0_call0_c_36 : Ref sig .tc := ⟨.hbm, 218, rfl⟩
abbrev main_call0_call0_v143 : Ref sig .tc := ⟨.hbm, 219, rfl⟩
abbrev main_call0_call0_v144 : Ref sig .tc := ⟨.hbm, 220, rfl⟩
abbrev main_call0_call0_c_37 : Ref sig .tc := ⟨.hbm, 221, rfl⟩
abbrev main_call0_call0_v145 : Ref sig .tc := ⟨.hbm, 222, rfl⟩
abbrev main_call0_call0_v146 : Ref sig .tc := ⟨.hbm, 223, rfl⟩
abbrev main_call0_call0_v147 : Ref sig .tc := ⟨.hbm, 224, rfl⟩
abbrev main_call0_call0_v148 : Ref sig .tc := ⟨.hbm, 225, rfl⟩
abbrev main_call0_call0_v149 : Ref sig .tc := ⟨.hbm, 226, rfl⟩
abbrev main_call0_call0_c_38 : Ref sig .tc := ⟨.hbm, 227, rfl⟩
abbrev main_call0_call0_v150 : Ref sig .tc := ⟨.hbm, 228, rfl⟩
abbrev main_call0_call0_v151 : Ref sig .tc := ⟨.hbm, 229, rfl⟩
abbrev main_call0_call0_c_39 : Ref sig .tc := ⟨.hbm, 230, rfl⟩
abbrev main_call0_call0_v152 : Ref sig .tc := ⟨.hbm, 231, rfl⟩
abbrev main_call0_call0_v153 : Ref sig .tc := ⟨.hbm, 232, rfl⟩
abbrev main_call0_call0_v154 : Ref sig .tc := ⟨.hbm, 233, rfl⟩
abbrev main_call0_call0_v155 : Ref sig .tc := ⟨.hbm, 234, rfl⟩
abbrev main_call0_call0_v156 : Ref sig .tc := ⟨.hbm, 235, rfl⟩
abbrev main_call0_call0_c_40 : Ref sig .tc := ⟨.hbm, 236, rfl⟩
abbrev main_call0_call0_v157 : Ref sig .tc := ⟨.hbm, 237, rfl⟩
abbrev main_call0_call0_v158 : Ref sig .tc := ⟨.hbm, 238, rfl⟩
abbrev main_call0_call0_c_41 : Ref sig .tc := ⟨.hbm, 239, rfl⟩
abbrev main_call0_call0_v159 : Ref sig .tc := ⟨.hbm, 240, rfl⟩
abbrev main_call0_call0_v160 : Ref sig .tc := ⟨.hbm, 241, rfl⟩
abbrev main_call0_call0_v161 : Ref sig .tc := ⟨.hbm, 242, rfl⟩
abbrev main_call0_call0_v162 : Ref sig .tc := ⟨.hbm, 243, rfl⟩
abbrev main_call0_call0_v163 : Ref sig .tc := ⟨.hbm, 244, rfl⟩
abbrev main_call0_call0_c_42 : Ref sig .tc := ⟨.hbm, 245, rfl⟩
abbrev main_call0_call0_v164 : Ref sig .tc := ⟨.hbm, 246, rfl⟩
abbrev main_call0_call0_v165 : Ref sig .tc := ⟨.hbm, 247, rfl⟩
abbrev main_call0_call0_c_43 : Ref sig .tc := ⟨.hbm, 248, rfl⟩
abbrev main_call0_call0_v166 : Ref sig .tc := ⟨.hbm, 249, rfl⟩
abbrev main_call0_call0_v167 : Ref sig .tc := ⟨.hbm, 250, rfl⟩
abbrev main_call0_call0_v168 : Ref sig .tc := ⟨.hbm, 251, rfl⟩
abbrev main_call0_call0_v169 : Ref sig .tc := ⟨.hbm, 252, rfl⟩
abbrev main_call0_call0_v170 : Ref sig .tc := ⟨.hbm, 253, rfl⟩
abbrev main_call0_v19_0 : Ref sig .tc := ⟨.hbm, 254, rfl⟩
abbrev main_call0_call0_v172 : Ref sig .tc := ⟨.hbm, 255, rfl⟩
abbrev main_call0_call0_v173 : Ref sig .tc := ⟨.hbm, 256, rfl⟩
abbrev main_call0_call0_c_44 : Ref sig .tc := ⟨.hbm, 257, rfl⟩
abbrev main_call0_call0_v174 : Ref sig .tc := ⟨.hbm, 258, rfl⟩
abbrev main_call0_v19_1 : Ref sig .tc := ⟨.hbm, 259, rfl⟩
abbrev main_call0_v20 : Ref sig .tc := ⟨.hbm, 260, rfl⟩
abbrev main_call0_c_2 : Ref sig .tc := ⟨.hbm, 261, rfl⟩
abbrev main_call0_v21 : Ref sig .tc := ⟨.hbm, 262, rfl⟩
abbrev main_call0_v22 : Ref sig .tc := ⟨.hbm, 263, rfl⟩
abbrev main_call0_c_3 : Ref sig .tc := ⟨.hbm, 264, rfl⟩
abbrev main_call0_v23 : Ref sig .tc := ⟨.hbm, 265, rfl⟩
abbrev main_call0_v24 : Ref sig .tc := ⟨.hbm, 266, rfl⟩
abbrev main_call0_v25 : Ref sig .tc := ⟨.hbm, 267, rfl⟩
abbrev main_call0_cst : Ref sig .tc := ⟨.hbm, 268, rfl⟩
abbrev main_call0_v26 : Ref sig .tc := ⟨.hbm, 269, rfl⟩
abbrev main_call0_v27 : Ref sig .tc := ⟨.hbm, 270, rfl⟩
abbrev main_call0_v28 : Ref sig .tc := ⟨.hbm, 271, rfl⟩
abbrev main_call0_v29 : Ref sig .tc := ⟨.hbm, 272, rfl⟩
abbrev main_call0_v30 : Ref sig .tc := ⟨.hbm, 273, rfl⟩
abbrev main_call0_v31 : Ref sig .tc := ⟨.hbm, 274, rfl⟩
abbrev main_call0_v32 : Ref sig .tc := ⟨.hbm, 275, rfl⟩
abbrev main_call0_v33 : Ref sig .tc := ⟨.hbm, 276, rfl⟩
abbrev main_v7 : Ref sig .tc := ⟨.hbm, 277, rfl⟩
abbrev main_v8 : Ref sig .tc := ⟨.hbm, 278, rfl⟩
abbrev main_cst_3 : Ref sig .tc := ⟨.hbm, 279, rfl⟩
abbrev main_v9 : Ref sig .tc := ⟨.hbm, 280, rfl⟩
abbrev main_v10 : Ref sig .tc := ⟨.hbm, 281, rfl⟩
abbrev main_v11 : Ref sig .tc := ⟨.hbm, 282, rfl⟩
abbrev main_v12 : Ref sig .tc := ⟨.hbm, 283, rfl⟩
abbrev main_v13 : Ref sig .tc := ⟨.hbm, 284, rfl⟩
abbrev main_c_4 : Ref sig .tc := ⟨.hbm, 285, rfl⟩
abbrev main_call1_v0 : Ref sig .tc := ⟨.hbm, 286, rfl⟩
abbrev main_call1_v1 : Ref sig .tc := ⟨.hbm, 287, rfl⟩
abbrev main_v14 : Ref sig .tc := ⟨.hbm, 288, rfl⟩
abbrev main_c_5 : Ref sig .tc := ⟨.hbm, 289, rfl⟩
abbrev main_call2_v0 : Ref sig .tc := ⟨.hbm, 290, rfl⟩
abbrev main_call2_v1 : Ref sig .tc := ⟨.hbm, 291, rfl⟩
abbrev main_v15 : Ref sig .tc := ⟨.hbm, 292, rfl⟩

abbrev nD : Nat := 1
abbrev τ : Topo := Topo.v7x

variable {F : FTy → Type} [FloatOps F]
-- ==== Proof.KernelIdealBlock.lean ====
module

public import proofs.«01_k».proof.Proof.Gen.KernelIdeal.Skeleton
public import Idealize.ShloMosaic.Lib.Writes
public import Idealize.ShloMosaic.Lib.Pointwise.TacticCore
public import Idealize.ShloMosaic.Lib.Pointwise.Reshape
public import Idealize.ShloMosaic.Lib.Pointwise.Sums

/-! What one block of sixteen rows computes, and what the four blocks together leave in an output array. -/

@[expose] public section

set_option maxRecDepth 16384

noncomputable section

namespace Cert.KernelIdeal.Hand

open Cert.KernelIdeal Cert.KernelIdeal.Gen
open Idealize.ShloMosaic

variable {F : FTy → Type} [FloatOps F]

/-- The threshold `1 - t` of each position, `t` being held as one row of 64 numbers: row `i` of the array uses entry `i`. -/
def thresh (x3 : Vec F S1x64 .f32) : FVec F S64x2048 .f32 := fun i =>
  FloatOps.subf (FloatOps.ofBits .f32 0x3F800000#32) (x3 (ix2 (0 : Fin 1) (i (0 : Fin 2))))

/-- The positions that are masked: those whose table entry lies below the threshold and whose padding word is not zero. -/
def masked (x2 : Vec F S64x2048 .i32) (x3 : Vec F S1x64 .f32) (x4 : Vec F S64x2048 .f32) : IVec S64x2048 1 :=
  andi (cmpf .olt x4 (thresh x3)) (cmpi .ne x2 (fun _ => 0#32))

/-- An input with the masked positions replaced by one word. -/
def noised (k : BitVec 32) (x x2 : Vec F S64x2048 .i32) (x3 : Vec F S1x64 .f32) (x4 : Vec F S64x2048 .f32) : Vec F S64x2048 .i32 :=
  select (masked x2 x3 x4) (fun _ => k) x

/-- The threshold column of the rows `o … o + 15`, spread over the columns, is the threshold at those rows. -/
theorem thresh_rows (o : ℕ) (hs : S64x1.Slices ![o, 0] S16x1) (hb : S16x1.Broadcasts S16x2048)
    (inb : ∀ a, (![o, 0] : Fin 2 → ℕ) a + S16x2048.size a ≤ S64x2048.size a) (x3 : Vec F S1x64 .f32) :
    broadcastTo S16x2048 (extractStridedSlice S16x1 ![o, 0] (k0_pay1 x3) hs) hb
      = fun x => thresh x3 ((Rect.unit (s := S64x2048) ![o, 0] S16x2048.size inb).emb x) := by
  funext x
  unfold thresh
  pointwise [k0_pay1]
  exact congrArg (fun j => FloatOps.subf (FloatOps.ofBits .f32 0x3F800000#32) (x3 (ix2 (0 : Fin 1) j)))
    (Fin.ext (by simp [Rect.emb, Rect.unit]))

/-- The block of rows `o … o + 15` computed from those rows of the operands holds those rows of the masked array. -/
theorem block_value (k : BitVec 32) (o : ℕ) (hs : S64x1.Slices ![o, 0] S16x1) (hb : S16x1.Broadcasts S16x2048)
    (inb : ∀ a, (![o, 0] : Fin 2 → ℕ) a + S16x2048.size a ≤ S64x2048.size a)
    (x x2 : Vec F S64x2048 .i32) (x3 : Vec F S1x64 .f32) (x4 : Vec F S64x2048 .f32) :
    select (andi (cmpf .olt (fun y => x4 ((Rect.unit (s := S64x2048) ![o, 0] S16x2048.size inb).emb y))
          (broadcastTo S16x2048 (extractStridedSlice S16x1 ![o, 0] (k0_pay1 x3) hs) hb))
        (cmpi .ne (fun y => x2 ((Rect.unit (s := S64x2048) ![o, 0] S16x2048.size inb).emb y)) (constantI S16x2048 32 0#32)))
      (broadcast S16x2048 k) (fun y => x ((Rect.unit (s := S64x2048) ![o, 0] S16x2048.size inb).emb y))
      = fun y => noised k x x2 x3 x4 ((Rect.unit (s := S64x2048) ![o, 0] S16x2048.size inb).emb y) := by
  rw [thresh_rows o hs hb inb]
  rfl

/-- A block just stored into its slot of the scratch buffer is what a copy out of that slot reads. -/
theorem slot_read (M : Memref sig .tc .vmem S4x16x2048 .i32) (r : Rect S4x16x2048) (hu : ∀ a, r.stride a = 1)
    (hq : r.shape.Squeezes S16x2048) (hc : S16x2048.ShapeCasts r.shape) (s : M.view.ty.Contents (Elt F))
    (p : Vec F r.shape .i32) (v : Vec F S16x2048 .i32) (hp : p = shapeCast r.shape v hc)
    (L : List (View.Piece (Elt F) S4x16x2048 .i32)) :
    View.read (Elt F) ((M.slice r hu).squeeze S16x2048 hq).view (M.view.writes (Elt F) s (⟨r, p⟩ :: L)) = v := by
  subst hp
  funext x
  show M.view.read (Elt F) (M.view.writes (Elt F) s (⟨r, shapeCast r.shape v hc⟩ :: L))
    (r.emb (Shape.reshapeEquiv hq.numel_eq x)) = _
  rw [View.read_writes_cons_emb]
  show v (Shape.reshapeEquiv hc (Shape.reshapeEquiv hq.numel_eq x)) = v x
  rw [Shape.reshapeEquiv_reshapeEquiv, Shape.reshapeEquiv_self]

/-- A load of the whole row of `t` reads that row. -/
theorem row_read (M : Memref sig .tc .vmem S1x64 .f32) (inb : ∀ a, (![0, 0] : Fin 2 → ℕ) a + S1x64.size a ≤ S1x64.size a)
    (g : M.view.ty.Contents (Elt F)) :
    View.readAt (Elt F) M.view (Rect.unit (s := S1x64) ![0, 0] S1x64.size inb).toLoadRect g = View.read (Elt F) M.view g := by
  funext x
  show View.read (Elt F) M.view g ((Rect.unit (s := S1x64) ![0, 0] S1x64.size inb).emb x) = _
  refine congrArg _ (funext fun a => Fin.ext ?_)
  fin_cases a <;> simp [Rect.emb, Rect.unit]

/-- Four stored blocks, each holding its sixteen rows of `G`, leave `G`. -/
theorem four_blocks (M : Memref sig .tc .hbm S64x2048 .i32) (f : M.view.ty.Contents (Elt F)) (G : Vec F S64x2048 .i32)
    (i0 : ∀ a, (![0, 0] : Fin 2 → ℕ) a + S16x2048.size a ≤ S64x2048.size a)
    (i1 : ∀ a, (![16, 0] : Fin 2 → ℕ) a + S16x2048.size a ≤ S64x2048.size a)
    (i2 : ∀ a, (![32, 0] : Fin 2 → ℕ) a + S16x2048.size a ≤ S64x2048.size a)
    (i3 : ∀ a, (![48, 0] : Fin 2 → ℕ) a + S16x2048.size a ≤ S64x2048.size a)
    (d0 d1 d2 d3 : Vec F S16x2048 .i32)
    (h0 : d0 = fun y => G ((Rect.unit (s := S64x2048) ![0, 0] S16x2048.size i0).emb y))
    (h1 : d1 = fun y => G ((Rect.unit (s := S64x2048) ![16, 0] S16x2048.size i1).emb y))
    (h2 : d2 = fun y => G ((Rect.unit (s := S64x2048) ![32, 0] S16x2048.size i2).emb y))
    (h3 : d3 = fun y => G ((Rect.unit (s := S64x2048) ![48, 0] S16x2048.size i3).emb y)) :
    M.view.read (Elt F) (M.view.writes (Elt F) f
      [⟨Rect.unit (s := S64x2048) ![48, 0] S16x2048.size i3, d3⟩, ⟨Rect.unit (s := S64x2048) ![32, 0] S16x2048.size i2, d2⟩,
        ⟨Rect.unit (s := S64x2048) ![16, 0] S16x2048.size i1, d1⟩, ⟨Rect.unit (s := S64x2048) ![0, 0] S16x2048.size i0, d0⟩]) = G := by
  funext y
  refine View.read_writes_apply_of_pieces _ _ G _ ?_ y ?_
  · intro p hp x
    simp only [List.mem_cons, List.not_mem_nil, or_false] at hp
    rcases hp with rfl | rfl | rfl | rfl
    · exact congrFun h3 x
    · exact congrFun h2 x
    · exact congrFun h1 x
    · exact congrFun h0 x
  · exact View.cover_of_tiled (s := S64x2048) _ S16x2048.size rfl y

end Cert.KernelIdeal.Hand
-- ==== Proof.KernelIdealBody.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdealBlock
public import Idealize.ShloMosaic.Lib.Pipeline.FrameBody
public import Idealize.ShloMosaic.Lib.Pipeline.FrameValue
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The first result array. -/
abbrev outS : Memref sig .tc .hbm S64x2048 .i32 := Memref.whole main_v0_0
/-- The second result array. -/
abbrev outQ : Memref sig .tc .hbm S64x2048 .i32 := Memref.whole main_v0_1
/-- The scratch slots of the first result. -/
abbrev scrS : Memref sig .tc .vmem S4x16x2048 .i32 := Memref.whole cc0_scratch0
/-- The scratch slots of the second result. -/
abbrev scrQ : Memref sig .tc .vmem S4x16x2048 .i32 := Memref.whole cc0_scratch1
/-- The contents of a whole buffer. -/
abbrev BufAt (c : Dev nD) {sp : Space} {S : Shape} {e : EltTy} (M : Memref sig .tc sp S e) : Type := Buf (Elt F) (M.view.loc (c : Thread nD τ))
/-- Full ownership of a whole buffer at given contents. -/
abbrev ptAt (c : Dev nD) {sp : Space} {S : Shape} {e : EltTy} (M : Memref sig .tc sp S e) (f : BufAt (F := F) c M) : sProp 𝕄 :=
  M.view.loc (c : Thread nD τ) ↦{fullShare} f

set_option sl_exec.dmaWindow true in
/-- The body run: from the five input blocks, the scratch slots, the result arrays and the semaphores at zero, it leaves the
    noised arrays in the results, the input blocks and the semaphores as they were, and anything in the scratch slots. -/
theorem body_run (c : Dev nD)
    (arg0 : Memref sig .tc .vmem S64x2048 .i32) (harg0 : arg0.IsWhole) (arg1 : Memref sig .tc .vmem S64x2048 .i32) (harg1 : arg1.IsWhole)
    (arg2 : Memref sig .tc .vmem S64x2048 .i32) (harg2 : arg2.IsWhole) (arg3 : Memref sig .tc .vmem S1x64 .f32) (harg3 : arg3.IsWhole)
    (arg4 : Memref sig .tc .vmem S64x2048 .f32) (harg4 : arg4.IsWhole)
    (x0 x1 x2 : Vec F S64x2048 .i32) (x3 : Vec F S1x64 .f32) (x4 : Vec F S64x2048 .f32)
    (f5 : BufAt (F := F) c outS) (f6 : BufAt (F := F) c outQ) (W : Waits sig Unit) (K : PUnit → sProp 𝕄) :
    iprop(owns (c : Thread nD τ) arg0 fullShare x0 ∗ owns (c : Thread nD τ) arg1 fullShare x1
        ∗ owns (c : Thread nD τ) arg2 fullShare x2 ∗ owns (c : Thread nD τ) arg3 fullShare x3
        ∗ owns (c : Thread nD τ) arg4 fullShare x4
        ∗ (∃ f, ptAt c scrS f) ∗ (∃ f, ptAt c scrQ f)
        ∗ semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0
        ∗ semVal ((c : Thread nD τ), SemLoc.dma 9) 0 ∗ semVal ((c : Thread nD τ), SemLoc.dma 10) 0
        ∗ semVal ((c : Thread nD τ), SemLoc.dma 11) 0 ∗ semVal ((c : Thread nD τ), SemLoc.dma 12) 0
        ∗ ptAt c outS f5 ∗ ptAt c outQ f6
        ∗ owes (c : Thread nD τ) 0 W
        ∗ (iprop(owns (c : Thread nD τ) arg0 fullShare x0 ∗ owns (c : Thread nD τ) arg1 fullShare x1
            ∗ owns (c : Thread nD τ) arg2 fullShare x2 ∗ owns (c : Thread nD τ) arg3 fullShare x3
            ∗ owns (c : Thread nD τ) arg4 fullShare x4
            ∗ (∃ f, ptAt c scrS f) ∗ (∃ f, ptAt c scrQ f)
            ∗ semVal ((c : Thread nD τ), SemLoc.dma 5) 0 ∗ semVal ((c : Thread nD τ), SemLoc.dma 6) 0
            ∗ semVal ((c : Thread nD τ), SemLoc.dma 7) 0 ∗ semVal ((c : Thread nD τ), SemLoc.dma 8) 0
            ∗ semVal ((c : Thread nD τ), SemLoc.dma 9) 0 ∗ semVal ((c : Thread nD τ), SemLoc.dma 10) 0
            ∗ semVal ((c : Thread nD τ), SemLoc.dma 11) 0 ∗ semVal ((c : Thread nD τ), SemLoc.dma 12) 0
            ∗ ptAt c outS (noised 4099#32 x0 x2 x3 x4) ∗ ptAt c outQ (noised 32#32 x1 x2 x3 x4)
            ∗ (∃ W', owes (c : Thread nD τ) 0 W')) -∗ K ⟨⟩))
      ⊢ wp frame (wpE (defs₀ (F := F)) Variants.none c none) Set.univ
          (cc0__flow_kernel arg0 harg0 arg1 harg1 arg2 harg2 arg3 harg3 arg4 harg4
            outS (Memref.isWhole_whole _) outQ (Memref.isWhole_whole _)
            scrS (Memref.isWhole_whole _) scrQ (Memref.isWhole_whole _) cc0_scratch2) K := by
  simp only [cc0__flow_kernel_eq_skeleton]; unfold cc0__flow_kernel_skel
  unfold owns
  iintro ⟨⟨%g0, %h0, H0⟩, ⟨%g1, %h1, H1⟩, ⟨%g2, %h2, H2⟩, ⟨%g3, %h3, H3⟩, ⟨%g4, %h4, H4⟩, ⟨%s0, HS⟩, ⟨%s1, HQ⟩,
    C5, C6, C7, C8, C9, C10, C11, C12, H5, H6, HW, Hk⟩
  sl_exec
  sl_step
  subst h0 h1 h2 h3 h4
  have hr : body_run.sl.r c arg3 g3 = k0_pay1 (View.read (Elt F) arg3.view g3) := by
    unfold body_run.sl.r
    rw [row_read]
  have bS0 : body_run.sl.dma9 c arg0 arg2 arg3 arg4 g0 g2 g3 g4 s0 = fun y => noised 4099#32 (View.read (Elt F) arg0.view g0) (View.read (Elt F) arg2.view g2)
      (View.read (Elt F) arg3.view g3) (View.read (Elt F) arg4.view g4)
      ((Rect.unit (s := S64x2048) ![0, 0] S16x2048.size inb_S64x2048_S16x2048_0_0).emb y) := by
    unfold body_run.sl.dma9 body_run.sl.HS_1
    refine (slot_read _ _ _ _ shapeCasts_S16x2048_S1x16x2048 _ _ _ ?_ _).trans
      (block_value 4099#32 0 slices_S64x1_o0_0_S16x1 broadcasts_S16x1_S16x2048 inb_S64x2048_S16x2048_0_0 (View.read (Elt F) arg0.view g0)
        (View.read (Elt F) arg2.view g2) (View.read (Elt F) arg3.view g3) (View.read (Elt F) arg4.view g4))
    first | rw [hr] | rw [row_read]
    rfl
  have bS1 : body_run.sl.dma17 c arg0 arg2 arg3 arg4 g0 g2 g3 g4 s0 = fun y => noised 4099#32 (View.read (Elt F) arg0.view g0) (View.read (Elt F) arg2.view g2)
      (View.read (Elt F) arg3.view g3) (View.read (Elt F) arg4.view g4)
      ((Rect.unit (s := S64x2048) ![16, 0] S16x2048.size inb_S64x2048_S16x2048_16_0).emb y) := by
    unfold body_run.sl.dma17 body_run.sl.HS_2
    refine (slot_read _ _ _ _ shapeCasts_S16x2048_S1x16x2048 _ _ _ ?_ _).trans
      (block_value 4099#32 16 slices_S64x1_o16_0_S16x1 broadcasts_S16x1_S16x2048 inb_S64x2048_S16x2048_16_0 (View.read (Elt F) arg0.view g0)
        (View.read (Elt F) arg2.view g2) (View.read (Elt F) arg3.view g3) (View.read (Elt F) arg4.view g4))
    first | rw [hr] | rw [row_read]
    rfl
  have bS2 : body_run.sl.dma25 c arg0 arg2 arg3 arg4 g0 g2 g3 g4 s0 = fun y => noised 4099#32 (View.read (Elt F) arg0.view g0) (View.read (Elt F) arg2.view g2)
      (View.read (Elt F) arg3.view g3) (View.read (Elt F) arg4.view g4)
      ((Rect.unit (s := S64x2048) ![32, 0] S16x2048.size inb_S64x2048_S16x2048_32_0).emb y) := by
    unfold body_run.sl.dma25 body_run.sl.HS_3
    refine (slot_read _ _ _ _ shapeCasts_S16x2048_S1x16x2048 _ _ _ ?_ _).trans
      (block_value 4099#32 32 slices_S64x1_o32_0_S16x1 broadcasts_S16x1_S16x2048 inb_S64x2048_S16x2048_32_0 (View.read (Elt F) arg0.view g0)
        (View.read (Elt F) arg2.view g2) (View.read (Elt F) arg3.view g3) (View.read (Elt F) arg4.view g4))
    first | rw [hr] | rw [row_read]
    rfl
  have bS3 : body_run.sl.dma33 c arg0 arg2 arg3 arg4 g0 g2 g3 g4 s0 = fun y => noised 4099#32 (View.read (Elt F) arg0.view g0) (View.read (Elt F) arg2.view g2)
      (View.read (Elt F) arg3.view g3) (View.read (Elt F) arg4.view g4)
      ((Rect.unit (s := S64x2048) ![48, 0] S16x2048.size inb_S64x2048_S16x2048_48_0).emb y) := by
    unfold body_run.sl.dma33 body_run.sl.HS_4
    refine (slot_read _ _ _ _ shapeCasts_S16x2048_S1x16x2048 _ _ _ ?_ _).trans
      (block_value 4099#32 48 slices_S64x1_o48_0_S16x1 broadcasts_S16x1_S16x2048 inb_S64x2048_S16x2048_48_0 (View.read (Elt F) arg0.view g0)
        (View.read (Elt F) arg2.view g2) (View.read (Elt F) arg3.view g3) (View.read (Elt F) arg4.view g4))
    first | rw [hr] | rw [row_read]
    rfl
  have bQ0 : body_run.sl.dma9_1 c arg1 arg2 arg3 arg4 g1 g2 g3 g4 s1 = fun y => noised 32#32 (View.read (Elt F) arg1.view g1) (View.read (Elt F) arg2.view g2)
      (View.read (Elt F) arg3.view g3) (View.read (Elt F) arg4.view g4)
      ((Rect.unit (s := S64x2048) ![0, 0] S16x2048.size inb_S64x2048_S16x2048_0_0).emb y) := by
    unfold body_run.sl.dma9_1 body_run.sl.HQ_1
    refine (slot_read _ _ _ _ shapeCasts_S16x2048_S1x16x2048 _ _ _ ?_ _).trans
      (block_value 32#32 0 slices_S64x1_o0_0_S16x1 broadcasts_S16x1_S16x2048 inb_S64x2048_S16x2048_0_0 (View.read (Elt F) arg1.view g1)
        (View.read (Elt F) arg2.view g2) (View.read (Elt F) arg3.view g3) (View.read (Elt F) arg4.view g4))
    first | rw [hr] | rw [row_read]
    rfl
  have bQ1 : body_run.sl.dma17_1 c arg1 arg2 arg3 arg4 g1 g2 g3 g4 s1 = fun y => noised 32#32 (View.read (Elt F) arg1.view g1) (View.read (Elt F) arg2.view g2)
      (View.read (Elt F) arg3.view g3) (View.read (Elt F) arg4.view g4)
      ((Rect.unit (s := S64x2048) ![16, 0] S16x2048.size inb_S64x2048_S16x2048_16_0).emb y) := by
    unfold body_run.sl.dma17_1 body_run.sl.HQ_2
    refine (slot_read _ _ _ _ shapeCasts_S16x2048_S1x16x2048 _ _ _ ?_ _).trans
      (block_value 32#32 16 slices_S64x1_o16_0_S16x1 broadcasts_S16x1_S16x2048 inb_S64x2048_S16x2048_16_0 (View.read (Elt F) arg1.view g1)
        (View.read (Elt F) arg2.view g2) (View.read (Elt F) arg3.view g3) (View.read (Elt F) arg4.view g4))
    first | rw [hr] | rw [row_read]
    rfl
  have bQ2 : body_run.sl.dma25_1 c arg1 arg2 arg3 arg4 g1 g2 g3 g4 s1 = fun y => noised 32#32 (View.read (Elt F) arg1.view g1) (View.read (Elt F) arg2.view g2)
      (View.read (Elt F) arg3.view g3) (View.read (Elt F) arg4.view g4)
      ((Rect.unit (s := S64x2048) ![32, 0] S16x2048.size inb_S64x2048_S16x2048_32_0).emb y) := by
    unfold body_run.sl.dma25_1 body_run.sl.HQ_3
    refine (slot_read _ _ _ _ shapeCasts_S16x2048_S1x16x2048 _ _ _ ?_ _).trans
      (block_value 32#32 32 slices_S64x1_o32_0_S16x1 broadcasts_S16x1_S16x2048 inb_S64x2048_S16x2048_32_0 (View.read (Elt F) arg1.view g1)
        (View.read (Elt F) arg2.view g2) (View.read (Elt F) arg3.view g3) (View.read (Elt F) arg4.view g4))
    first | rw [hr] | rw [row_read]
    rfl
  have bQ3 : body_run.sl.dma33_1 c arg1 arg2 arg3 arg4 g1 g2 g3 g4 s1 = fun y => noised 32#32 (View.read (Elt F) arg1.view g1) (View.read (Elt F) arg2.view g2)
      (View.read (Elt F) arg3.view g3) (View.read (Elt F) arg4.view g4)
      ((Rect.unit (s := S64x2048) ![48, 0] S16x2048.size inb_S64x2048_S16x2048_48_0).emb y) := by
    unfold body_run.sl.dma33_1 body_run.sl.HQ_4
    refine (slot_read _ _ _ _ shapeCasts_S16x2048_S1x16x2048 _ _ _ ?_ _).trans
      (block_value 32#32 48 slices_S64x1_o48_0_S16x1 broadcasts_S16x1_S16x2048 inb_S64x2048_S16x2048_48_0 (View.read (Elt F) arg1.view g1)
        (View.read (Elt F) arg2.view g2) (View.read (Elt F) arg3.view g3) (View.read (Elt F) arg4.view g4))
    first | rw [hr] | rw [row_read]
    rfl
  have eS := four_blocks outS f5 _ _ _ _ _ _ _ _ _ bS0 bS1 bS2 bS3
  have eQ := four_blocks outQ f6 _ _ _ _ _ _ _ _ _ bQ0 bQ1 bQ2 bQ3
  rw [View.read_whole] at eS eQ
  rw [eS, eQ]
  iapply Hk
  isplitl [H0]
  · iexists g0; isplitr; · ipureintro; rfl
    iexact H0
  isplitl [H1]
  · iexists g1; isplitr; · ipureintro; rfl
    iexact H1
  isplitl [H2]
  · iexists g2; isplitr; · ipureintro; rfl
    iexact H2
  isplitl [H3]
  · iexists g3; isplitr; · ipureintro; rfl
    iexact H3
  isplitl [H4]
  · iexists g4; isplitr; · ipureintro; rfl
    iexact H4
  isplitl [HS]; · iexists _; iexact HS
  isplitl [HQ]; · iexists _; iexact HQ
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [H5]; · iexact H5
  isplitl [H6]; · iexact H6
  iexists _; iexact HW

end Cert.KernelIdeal.Hand

end
-- ==== Proof.KernelIdealRun.lean ====
module

public import proofs.«01_k».proof.Proof.KernelIdealBody
public import proofs.«01_k».proof.Proof.Gen.KernelIdeal.Frame

/-! The kernel's launch: the body's run placed under the pipeline, what the two output arrays hold at the end, and the frame. -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's set-up -/

set_option maxHeartbeats 800000 in
/-- The program up to the kernel call is the three host operations. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The eight semaphores the copies out signal. -/
abbrev osem0 : Fin 8 → SemLoc sig := fun j =>
  (![SemLoc.dma 5, SemLoc.dma 6, SemLoc.dma 7, SemLoc.dma 8, SemLoc.dma 9, SemLoc.dma 10, SemLoc.dma 11, SemLoc.dma 12] : Fin 8 → SemLoc sig) j

/-- The kernel's eight copy semaphores are its own. -/
theorem ownSemFacts0 : Pipeline.OwnSemFacts spec0 osem0 := by decide

/-- The two output arrays, written by the body's own copies. -/
def R0 : Finset (Ref sig .tc) := {main_v0_0, main_v0_1}

/-- The two result arrays are among the arrays that the pipeline does not stage. -/
theorem R0_sub : R0 ⊆ Pipeline.restRefs sig spec0 \ ∅ := by decide

/-- The kernel's own semaphores at zero, one by one. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 5) 0 ∗ semVal ((c : Thread nD τ), SemLoc.dma 6) 0
          ∗ semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0) := by
  rw [Pipeline.ownSems0_eq_of_list c osem0 [0, 1, 2, 3, 4, 5, 6, 7] (by decide) (by decide)]; rfl

/-- What the two output arrays hold after the body, as functions of the arrays the region finds. -/
def G (c : Dev nD) : (b : Ref sig .tc) → Buf (Elt F) ((c.tc : Thread nD τ).loc b) :=
  Function.update (Function.update (V m c)
    main_v0_0 (noised 4099#32 (iblk m c 0 t0_0) (iblk m c 2 t0_0) (iblk m c 3 t0_0) (iblk m c 4 t0_0)))
    main_v0_1 (noised 32#32 (iblk m c 1 t0_0) (iblk m c 2 t0_0) (iblk m c 3 t0_0) (iblk m c 4 t0_0))

/-- The first result array at the end. -/
theorem G_S (c : Dev nD) : G m c main_v0_0
    = noised 4099#32 (iblk m c 0 t0_0) (iblk m c 2 t0_0) (iblk m c 3 t0_0) (iblk m c 4 t0_0) := by
  unfold G
  rw [Function.update_of_ne (by decide), Function.update_self]

/-- The second result array at the end. -/
theorem G_Q (c : Dev nD) : G m c main_v0_1
    = noised 32#32 (iblk m c 1 t0_0) (iblk m c 2 t0_0) (iblk m c 3 t0_0) (iblk m c 4 t0_0) := by
  unfold G
  rw [Function.update_self]

/-- The invariant's parts at any contents of the output arrays: the two scratch buffers, the generator register, the eight
    semaphores at zero, the output arrays. -/
theorem inv_eq (V' : (c : Dev nD) → (b : Ref sig .tc) → Buf (Elt F) ((c.tc : Thread nD τ).loc b)) (c : Dev nD) :
    (Pipeline.ΦDRG osem0 spec0 ∅ R0 (V m) V' c : sProp 𝕄)
      = iprop(((∃ f, ptAt c scrS f) ∗ (∃ f, ptAt c scrQ f)) ∗ (∃ r, prngReg c r)
          ∗ (semVal ((c : Thread nD τ), SemLoc.dma 5) 0 ∗ semVal ((c : Thread nD τ), SemLoc.dma 6) 0
          ∗ semVal ((c : Thread nD τ), SemLoc.dma 7) 0 ∗ semVal ((c : Thread nD τ), SemLoc.dma 8) 0
          ∗ semVal ((c : Thread nD τ), SemLoc.dma 9) 0 ∗ semVal ((c : Thread nD τ), SemLoc.dma 10) 0
          ∗ semVal ((c : Thread nD τ), SemLoc.dma 11) 0 ∗ semVal ((c : Thread nD τ), SemLoc.dma 12) 0)
          ∗ emp ∗ (ptAt c outS (V' c main_v0_0) ∗ ptAt c outQ (V' c main_v0_1))) := by
  rw [Pipeline.ΦDRG_eq, scopedRest0_eq, ownSems00_eq, BI.bigSep_empty]
  unfold Pipeline.routed R0
  rw [BI.bigSep_eq_bigSepL_of_eq [main_v0_0, main_v0_1] (by decide) (by decide)]
  rfl

/-- The proof data of the one pipeline on core `c`: the arrays as the region finds them, the input buffers left as fetched,
    the output arrays at their launch contents before the body and at `G` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ p := Pipeline.ΦDRG osem0 spec0 ∅ R0 (V m) (if p.val = 0 then V m else G m) c
  q _ := fullShare
  owed _ := 0

/-- Each window's array is as the region finds it. -/
theorem A_eq (c : Dev nD) (w : Fin cfg0.W) : (dats m 0 c).A w = V m c (Pipeline.arrRef spec0 w) := by
  dsimp only [dats]

/-- The body leaves every input block as it was: window 0. -/
theorem after0 (c : Dev nD) (t : Fin cfg0.N) : (dats m 0 c).after 0 t = iblk m c 0 t := by dsimp only [dats]
/-- The same of window 1. -/
theorem after1 (c : Dev nD) (t : Fin cfg0.N) : (dats m 0 c).after 1 t = iblk m c 1 t := by dsimp only [dats]
/-- The same of window 2. -/
theorem after2 (c : Dev nD) (t : Fin cfg0.N) : (dats m 0 c).after 2 t = iblk m c 2 t := by dsimp only [dats]
/-- The same of window 3. -/
theorem after3 (c : Dev nD) (t : Fin cfg0.N) : (dats m 0 c).after 3 t = iblk m c 3 t := by dsimp only [dats]
/-- The same of window 4. -/
theorem after4 (c : Dev nD) (t : Fin cfg0.N) : (dats m 0 c).after 4 t = iblk m c 4 t := by dsimp only [dats]

/-- The body finds every input window's block in its staging buffer: window 0. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
/-- The same of window 1. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
/-- The same of window 2. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
/-- The same of window 3. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
/-- The same of window 4. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)

/-! ## The body under the pipeline -/

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What the body ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body, started with the five operands fetched, ends with them untouched and both output arrays computed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [fin_N0 t]
  rw [show (dats m 0 c).Φ (t0_0 : Fin cfg0.N).castSucc = Pipeline.ΦDRG osem0 spec0 ∅ R0 (V m) (V m) c from rfl,
    show (dats m 0 c).Φ (t0_0 : Fin cfg0.N).succ = Pipeline.ΦDRG osem0 spec0 ∅ R0 (V m) (G m) c from rfl,
    inv_eq, inv_eq, G_S, G_Q]
  unfold Dat.owesAt Pipeline.owesWithin
  rw [show (dats m 0 c).owed (t0_0 : Fin cfg0.N).castSucc = 0 from rfl, show (dats m 0 c).owed (t0_0 : Fin cfg0.N).succ = 0 from rfl]
  simp only [before0, before1, before2, before3, before4, after0, after1, after2, after3, after4]
  iintro ⟨⟨⟨HS, HQ⟩, Hg, ⟨C5, C6, C7, C8, C9, C10, C11, C12⟩, He, ⟨O5, O6⟩⟩, ⟨%W, -, HW⟩,
    ⟨%d0, H0⟩, ⟨%d1, H1⟩, ⟨%d2, H2⟩, ⟨%d3, H3⟩, ⟨%d4, H4⟩⟩
  iapply (body_run c (st0_0 t0_0) (hstage0_0 0) (st0_1 t0_0) (hstage0_1 0) (st0_2 t0_0) (hstage0_2 0) (st0_3 t0_0) (hstage0_3 0)
    (st0_4 t0_0) (hstage0_4 0) (iblk m c 0 t0_0) (iblk m c 1 t0_0) (iblk m c 2 t0_0) (iblk m c 3 t0_0) (iblk m c 4 t0_0) _ _ W _)
  isplitl [H0]; · iexact H0
  isplitl [H1]; · iexact H1
  isplitl [H2]; · iexact H2
  isplitl [H3]; · iexact H3
  isplitl [H4]; · iexact H4
  isplitl [HS]; · iexact HS
  isplitl [HQ]; · iexact HQ
  isplitl [C5]; · iexact C5
  isplitl [C6]; · iexact C6
  isplitl [C7]; · iexact C7
  isplitl [C8]; · iexact C8
  isplitl [C9]; · iexact C9
  isplitl [C10]; · iexact C10
  isplitl [C11]; · iexact C11
  isplitl [C12]; · iexact C12
  isplitl [O5]; · iexact O5
  isplitl [O6]; · iexact O6
  isplitl [HW]; · iexact HW
  iintro ⟨H0, H1, H2, H3, H4, HS, HQ, C5, C6, C7, C8, C9, C10, C11, C12, O5, O6, ⟨%W', HW'⟩⟩
  isplitl [HS HQ Hg C5 C6 C7 C8 C9 C10 C11 C12 He O5 O6]
  · isplitl [HS HQ]
    · isplitl [HS]; · iexact HS
      iexact HQ
    isplitl [Hg]; · iexact Hg
    isplitl [C5 C6 C7 C8 C9 C10 C11 C12]
    · isplitl [C5]; · iexact C5
      isplitl [C6]; · iexact C6
      isplitl [C7]; · iexact C7
      isplitl [C8]; · iexact C8
      isplitl [C9]; · iexact C9
      isplitl [C10]; · iexact C10
      isplitl [C11]; · iexact C11
      iexact C12
    isplitl [He]; · iexact He
    isplitl [O5]; · iexact O5
    iexact O6
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

/-- The body that the pipeline calls is the kernel's. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at its one point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The whole program's run: every array not an output as the region found it, both outputs at `G`, every semaphore at zero. -/
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 ∅ R0
    (Finset.empty_subset _) R0_sub m ρ main
    (hbody := fun c => (body_obligation m c).loose) (hshare := fun c => (dats m 0 c).share_full fun _ => rfl)
    (howed := fun _ _ => rfl) (V := V m) (hmain := hmainD m Variants.none) (hA := A_eq m) (G := G m)
    (hin := fun _ => .rfl) (hout := fun _ => .rfl)

/-- What the program leaves: both output arrays, the arguments as given, every semaphore at zero. -/
theorem run_value : θ_run defs (onTc (τ := τ) (main (F := F))) ⟨m, fun _ => 0, ρ⟩ (fun r =>
      (∀ c : Dev nD,
      r.2.mem ((c.tc : Thread nD τ).loc main_v0_0) = G m c main_v0_0
      ∧ r.2.mem ((c.tc : Thread nD τ).loc main_v0_1) = G m c main_v0_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨h.1.written c (by decide), h.1.written c (by decide),
      ((h.1.toR c).1 0).trans (((dats m 0 c).arrAt_in 0 rfl _).trans ((A_eq m c 0).trans (V_main_arg0 m c))),
      ((h.1.toR c).1 1).trans (((dats m 0 c).arrAt_in 1 rfl _).trans ((A_eq m c 1).trans (V_main_arg1 m c))),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩, h.2⟩) (run_main m ρ)

/-- The frame: the arguments end as given and every semaphore ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2.2, h.2⟩) (run_value m ρ)

end Cert.KernelIdeal.Hand

end
-- ==== Proof.TableCheck.lean ====
module

public import Mathlib.Data.Nat.Bitwise
public import Mathlib.Tactic.NormNum
public import Mathlib.Tactic.IntervalCases

/-! Counting on natural numbers the words the random generator draws, in a form that evaluates fast: the generator's
    rounds on naturals, the test that one float word is the draw at one index, and that test over a stretch of indices. -/

@[expose] public section

namespace Cert.Hand

/-- One round on naturals below `2 ^ 32`: add, rotate by `r` (with `s = 32 - r`), exclusive or; then go on with `k`. -/
def roundN {α : Type} (r s : Nat) (k : Nat → Nat → α) (a b : Nat) : α :=
  (fun y => k y (Nat.xor y (Nat.lor (Nat.mod (Nat.shiftLeft b r) 4294967296) (Nat.shiftRight b s))))
    (Nat.mod (Nat.add a b) 4294967296)

/-- A key injection: `p` and `q` added to the two halves. -/
def injectN {α : Type} (p q : Nat) (k : Nat → Nat → α) (a b : Nat) : α :=
  k (Nat.mod (Nat.add a p) 4294967296) (Nat.mod (Nat.add b q) 4294967296)

/-- Four rounds of the odd groups and an injection. -/
def oddN {α : Type} (p q : Nat) (k : Nat → Nat → α) : Nat → Nat → α :=
  roundN 13 19 (roundN 15 17 (roundN 26 6 (roundN 6 26 (injectN p q k))))

/-- Four rounds of the even groups and an injection. -/
def evenN {α : Type} (p q : Nat) (k : Nat → Nat → α) : Nat → Nat → α :=
  roundN 17 15 (roundN 29 3 (roundN 16 16 (roundN 24 8 (injectN p q k))))

/-- The generator at key `(0, 42)`: five groups. -/
def threefryN {α : Type} (k : Nat → Nat → α) : Nat → Nat → α :=
  oddN 42 466689009 (evenN 466689008 2 (oddN 0 45 (evenN 42 466689012 (oddN 466689008 5 k))))

/-- Whether the word `w` is the float whose value is the top 23 bits of `x ^ y` over `2 ^ 23`. -/
def drawN (w x y : Nat) : Bool :=
  (fun d => or
    (Nat.beq (Nat.mul (Nat.add 8388608 (Nat.mod w 8388608)) (Nat.shiftLeft 1 (Nat.div w 8388608)))
      (Nat.shiftLeft d 127))
    (and (Nat.beq w 0) (Nat.beq d 0))) (Nat.shiftRight (Nat.xor x y) 9)

/-- The test of one word at index `i`. -/
def wordN (w i : Nat) : Bool := threefryN (drawN w) 0 (Nat.add i 42)

/-- The test of a table over the `n` indices from `base`. -/
def runN (f : Nat → BitVec 32) (base : Nat) : Nat → Bool
  | 0 => true
  | n + 1 => and (wordN (f (Nat.add base n)).toNat (Nat.add base n)) (runN f base n)

/-- What a test passed over a stretch says at each index of it. -/
theorem runN_spec {f : Nat → BitVec 32} {base n : Nat} (h : runN f base n = true) {i : Nat} (hi : i < n) :
    wordN (f (base + i)).toNat (base + i) = true := by
  induction n with
  | zero => omega
  | succ n ih =>
    simp only [runN, Bool.and_eq_true] at h
    rcases Nat.lt_succ_iff_lt_or_eq.mp hi with hlt | rfl
    · exact ih h.2 hlt
    · exact h.1

/-- The test of a list of tables, each over the 128 indices that follow those of the one before. -/
def blocksN : List (Nat → BitVec 32) → Nat → Bool
  | [], _ => true
  | f :: fs, base => and (runN f base 128) (blocksN fs (Nat.add base 128))

/-- What that test says of each table's indices. -/
theorem blocksN_spec {fs : List (Nat → BitVec 32)} {d : Nat → BitVec 32} {base n i : Nat} (h : blocksN fs base = true)
    (hn : n < fs.length) (hi : i < 128) :
    wordN (fs.getD n d (base + 128 * n + i)).toNat (base + 128 * n + i) = true := by
  induction fs generalizing base n with
  | nil => simp at hn
  | cons f fs ih =>
    simp only [blocksN, Bool.and_eq_true] at h
    cases n with
    | zero => simpa using runN_spec h.1 hi
    | succ n =>
      have := ih (n := n) h.2 (by simpa using hn)
      have e : Nat.add base 128 + 128 * n + i = base + 128 * (n + 1) + i := by
        simp only [Nat.add_eq]; omega
      rw [e] at this
      simpa using this

/-- The test of two lists one after the other. -/
theorem blocksN_append {fs gs : List (Nat → BitVec 32)} {base : Nat} (hf : blocksN fs base = true)
    (hg : blocksN gs (base + 128 * fs.length) = true) : blocksN (fs ++ gs) base = true := by
  induction fs generalizing base with
  | nil => simpa using hg
  | cons f fs ih =>
    simp only [blocksN, Bool.and_eq_true, List.cons_append] at hf ⊢
    refine ⟨hf.1, ih hf.2 ?_⟩
    have e : base + 128 * (f :: fs).length = Nat.add base 128 + 128 * fs.length := by
      simp only [List.length_cons, Nat.add_eq]; omega
    rwa [← e]

/-- A table of 128 tables, whose test passes in four parts of 32, passes at every one of its 16384 indices. -/
theorem chunk_spec {t : Nat → BitVec 32} {p q r s : List (Nat → BitVec 32)} {d : Nat → BitVec 32} {k : Nat}
    (link : ∀ n i, n < 128 → i / 128 % 128 = n → t i = (p ++ q ++ r ++ s).getD n d i)
    (lp : p.length = 32) (lq : q.length = 32) (lr : r.length = 32) (ls : s.length = 32)
    (hp : blocksN p (16384 * k) = true) (hq : blocksN q (16384 * k + 4096) = true)
    (hr : blocksN r (16384 * k + 8192) = true) (hs : blocksN s (16384 * k + 12288) = true)
    {i : Nat} (hi : i / 16384 = k) : wordN (t i).toNat i = true := by
  have hall : blocksN (p ++ q ++ r ++ s) (16384 * k) = true := by
    refine blocksN_append (blocksN_append (blocksN_append hp ?_) ?_) ?_
    · rw [lp]; exact hq
    · simp only [List.length_append, lp, lq]; exact hr
    · simp only [List.length_append, lp, lq, lr]; exact hs
  rw [link (i / 128 % 128) i (by omega) rfl]
  have := blocksN_spec (d := d) (n := i / 128 % 128) (i := i % 128) hall
    (by simp only [List.length_append, lp, lq, lr, ls]; omega) (by omega)
  have e : 16384 * k + 128 * (i / 128 % 128) + i % 128 = i := by omega
  rwa [e] at this

end Cert.Hand
-- ==== Proof.Table0.lean ====
module

public import proofs.«01_k».proof.KernelIdeal
public import proofs.«01_k».proof.Proof.TableCheck

/-! The kernel's table at the indices 0 to 16383: each word is the generator's draw. -/

@[expose] public section

set_option maxRecDepth 100000

namespace Cert.Hand

open Cert.KernelIdeal

/-- Tables of 128 words each, part 1 of 4. -/
noncomputable def rows0a : List (Nat → BitVec 32) :=
  [lit0t0_0, lit0t0_1, lit0t0_2, lit0t0_3, lit0t0_4, lit0t0_5, lit0t0_6, lit0t0_7, lit0t0_8, lit0t0_9, lit0t0_10,
   lit0t0_11, lit0t0_12, lit0t0_13, lit0t0_14, lit0t0_15, lit0t0_16, lit0t0_17, lit0t0_18, lit0t0_19, lit0t0_20,
   lit0t0_21, lit0t0_22, lit0t0_23, lit0t0_24, lit0t0_25, lit0t0_26, lit0t0_27, lit0t0_28, lit0t0_29, lit0t0_30,
   lit0t0_31]

/-- Tables of 128 words each, part 2 of 4. -/
noncomputable def rows0b : List (Nat → BitVec 32) :=
  [lit0t0_32, lit0t0_33, lit0t0_34, lit0t0_35, lit0t0_36, lit0t0_37, lit0t0_38, lit0t0_39, lit0t0_40, lit0t0_41,
   lit0t0_42, lit0t0_43, lit0t0_44, lit0t0_45, lit0t0_46, lit0t0_47, lit0t0_48, lit0t0_49, lit0t0_50, lit0t0_51,
   lit0t0_52, lit0t0_53, lit0t0_54, lit0t0_55, lit0t0_56, lit0t0_57, lit0t0_58, lit0t0_59, lit0t0_60, lit0t0_61,
   lit0t0_62, lit0t0_63]

/-- Tables of 128 words each, part 3 of 4. -/
noncomputable def rows0c : List (Nat → BitVec 32) :=
  [lit0t0_64, lit0t0_65, lit0t0_66, lit0t0_67, lit0t0_68, lit0t0_69, lit0t0_70, lit0t0_71, lit0t0_72, lit0t0_73,
   lit0t0_74, lit0t0_75, lit0t0_76, lit0t0_77, lit0t0_78, lit0t0_79, lit0t0_80, lit0t0_81, lit0t0_82, lit0t0_83,
   lit0t0_84, lit0t0_85, lit0t0_86, lit0t0_87, lit0t0_88, lit0t0_89, lit0t0_90, lit0t0_91, lit0t0_92, lit0t0_93,
   lit0t0_94, lit0t0_95]

/-- Tables of 128 words each, part 4 of 4. -/
noncomputable def rows0d : List (Nat → BitVec 32) :=
  [lit0t0_96, lit0t0_97, lit0t0_98, lit0t0_99, lit0t0_100, lit0t0_101, lit0t0_102, lit0t0_103, lit0t0_104,
   lit0t0_105, lit0t0_106, lit0t0_107, lit0t0_108, lit0t0_109, lit0t0_110, lit0t0_111, lit0t0_112, lit0t0_113,
   lit0t0_114, lit0t0_115, lit0t0_116, lit0t0_117, lit0t0_118, lit0t0_119, lit0t0_120, lit0t0_121, lit0t0_122,
   lit0t0_123, lit0t0_124, lit0t0_125, lit0t0_126, lit0t0_127]

/-- Every word of these tables is the draw at its index. -/
theorem rows0a_drawn : blocksN rows0a 0 = true := by decide +kernel

/-- Every word of these tables is the draw at its index. -/
theorem rows0b_drawn : blocksN rows0b 4096 = true := by decide +kernel

/-- Every word of these tables is the draw at its index. -/
theorem rows0c_drawn : blocksN rows0c 8192 = true := by decide +kernel

/-- Every word of these tables is the draw at its index. -/
theorem rows0d_drawn : blocksN rows0d 12288 = true := by decide +kernel

/-- This part of the table reads the lists above. -/
theorem table0_rows (n i : Nat) (hn : n < 128) (h : i / 128 % 128 = n) :
    lit0t1_0 i = (rows0a ++ rows0b ++ rows0c ++ rows0d).getD n (fun _ => 0#32) i := by
  unfold lit0t1_0
  rw [h]
  clear h
  interval_cases n <;> rfl

/-- Every word of this part of the table is the generator's draw at its index. -/
theorem table0_drawn {i : Nat} (hi : i / 16384 = 0) : wordN (lit0t1_0 i).toNat i = true :=
  chunk_spec (k := 0) table0_rows rfl rfl rfl rfl rows0a_drawn rows0b_drawn rows0c_drawn rows0d_drawn hi

end Cert.Hand
-- ==== Proof.Table1.lean ====
module

public import proofs.«01_k».proof.KernelIdeal
public import proofs.«01_k».proof.Proof.TableCheck

/-! The kernel's table at the indices 16384 to 32767: each word is the generator's draw. -/

@[expose] public section

set_option maxRecDepth 100000

namespace Cert.Hand

open Cert.KernelIdeal

/-- Tables of 128 words each, part 1 of 4. -/
noncomputable def rows1a : List (Nat → BitVec 32) :=
  [lit0t0_128, lit0t0_129, lit0t0_130, lit0t0_131, lit0t0_132, lit0t0_133, lit0t0_134, lit0t0_135, lit0t0_136,
   lit0t0_137, lit0t0_138, lit0t0_139, lit0t0_140, lit0t0_141, lit0t0_142, lit0t0_143, lit0t0_144, lit0t0_145,
   lit0t0_146, lit0t0_147, lit0t0_148, lit0t0_149, lit0t0_150, lit0t0_151, lit0t0_152, lit0t0_153, lit0t0_154,
   lit0t0_155, lit0t0_156, lit0t0_157, lit0t0_158, lit0t0_159]

/-- Tables of 128 words each, part 2 of 4. -/
noncomputable def rows1b : List (Nat → BitVec 32) :=
  [lit0t0_160, lit0t0_161, lit0t0_162, lit0t0_163, lit0t0_164, lit0t0_165, lit0t0_166, lit0t0_167, lit0t0_168,
   lit0t0_169, lit0t0_170, lit0t0_171, lit0t0_172, lit0t0_173, lit0t0_174, lit0t0_175, lit0t0_176, lit0t0_177,
   lit0t0_178, lit0t0_179, lit0t0_180, lit0t0_181, lit0t0_182, lit0t0_183, lit0t0_184, lit0t0_185, lit0t0_186,
   lit0t0_187, lit0t0_188, lit0t0_189, lit0t0_190, lit0t0_191]

/-- Tables of 128 words each, part 3 of 4. -/
noncomputable def rows1c : List (Nat → BitVec 32) :=
  [lit0t0_192, lit0t0_193, lit0t0_194, lit0t0_195, lit0t0_196, lit0t0_197, lit0t0_198, lit0t0_199, lit0t0_200,
   lit0t0_201, lit0t0_202, lit0t0_203, lit0t0_204, lit0t0_205, lit0t0_206, lit0t0_207, lit0t0_208, lit0t0_209,
   lit0t0_210, lit0t0_211, lit0t0_212, lit0t0_213, lit0t0_214, lit0t0_215, lit0t0_216, lit0t0_217, lit0t0_218,
   lit0t0_219, lit0t0_220, lit0t0_221, lit0t0_222, lit0t0_223]

/-- Tables of 128 words each, part 4 of 4. -/
noncomputable def rows1d : List (Nat → BitVec 32) :=
  [lit0t0_224, lit0t0_225, lit0t0_226, lit0t0_227, lit0t0_228, lit0t0_229, lit0t0_230, lit0t0_231, lit0t0_232,
   lit0t0_233, lit0t0_234, lit0t0_235, lit0t0_236, lit0t0_237, lit0t0_238, lit0t0_239, lit0t0_240, lit0t0_241,
   lit0t0_242, lit0t0_243, lit0t0_244, lit0t0_245, lit0t0_246, lit0t0_247, lit0t0_248, lit0t0_249, lit0t0_250,
   lit0t0_251, lit0t0_252, lit0t0_253, lit0t0_254, lit0t0_255]

/-- Every word of these tables is the draw at its index. -/
theorem rows1a_drawn : blocksN rows1a 16384 = true := by decide +kernel

/-- Every word of these tables is the draw at its index. -/
theorem rows1b_drawn : blocksN rows1b 20480 = true := by decide +kernel

/-- Every word of these tables is the draw at its index. -/
theorem rows1c_drawn : blocksN rows1c 24576 = true := by decide +kernel

/-- Every word of these tables is the draw at its index. -/
theorem rows1d_drawn : blocksN rows1d 28672 = true := by decide +kernel

/-- This part of the table reads the lists above. -/
theorem table1_rows (n i : Nat) (hn : n < 128) (h : i / 128 % 128 = n) :
    lit0t1_1 i = (rows1a ++ rows1b ++ rows1c ++ rows1d).getD n (fun _ => 0#32) i := by
  unfold lit0t1_1
  rw [h]
  clear h
  interval_cases n <;> rfl

/-- Every word of this part of the table is the generator's draw at its index. -/
theorem table1_drawn {i : Nat} (hi : i / 16384 = 1) : wordN (lit0t1_1 i).toNat i = true :=
  chunk_spec (k := 1) table1_rows rfl rfl rfl rfl rows1a_drawn rows1b_drawn rows1c_drawn rows1d_drawn hi

end Cert.Hand
-- ==== Proof.Table2.lean ====
module

public import proofs.«01_k».proof.KernelIdeal
public import proofs.«01_k».proof.Proof.TableCheck

/-! The kernel's table at the indices 32768 to 49151: each word is the generator's draw. -/

@[expose] public section

set_option maxRecDepth 100000

namespace Cert.Hand

open Cert.KernelIdeal

/-- Tables of 128 words each, part 1 of 4. -/
noncomputable def rows2a : List (Nat → BitVec 32) :=
  [lit0t0_256, lit0t0_257, lit0t0_258, lit0t0_259, lit0t0_260, lit0t0_261, lit0t0_262, lit0t0_263, lit0t0_264,
   lit0t0_265, lit0t0_266, lit0t0_267, lit0t0_268, lit0t0_269, lit0t0_270, lit0t0_271, lit0t0_272, lit0t0_273,
   lit0t0_274, lit0t0_275, lit0t0_276, lit0t0_277, lit0t0_278, lit0t0_279, lit0t0_280, lit0t0_281, lit0t0_282,
   lit0t0_283, lit0t0_284, lit0t0_285, lit0t0_286, lit0t0_287]

/-- Tables of 128 words each, part 2 of 4. -/
noncomputable def rows2b : List (Nat → BitVec 32) :=
  [lit0t0_288, lit0t0_289, lit0t0_290, lit0t0_291, lit0t0_292, lit0t0_293, lit0t0_294, lit0t0_295, lit0t0_296,
   lit0t0_297, lit0t0_298, lit0t0_299, lit0t0_300, lit0t0_301, lit0t0_302, lit0t0_303, lit0t0_304, lit0t0_305,
   lit0t0_306, lit0t0_307, lit0t0_308, lit0t0_309, lit0t0_310, lit0t0_311, lit0t0_312, lit0t0_313, lit0t0_314,
   lit0t0_315, lit0t0_316, lit0t0_317, lit0t0_318, lit0t0_319]

/-- Tables of 128 words each, part 3 of 4. -/
noncomputable def rows2c : List (Nat → BitVec 32) :=
  [lit0t0_320, lit0t0_321, lit0t0_322, lit0t0_323, lit0t0_324, lit0t0_325, lit0t0_326, lit0t0_327, lit0t0_328,
   lit0t0_329, lit0t0_330, lit0t0_331, lit0t0_332, lit0t0_333, lit0t0_334, lit0t0_335, lit0t0_336, lit0t0_337,
   lit0t0_338, lit0t0_339, lit0t0_340, lit0t0_341, lit0t0_342, lit0t0_343, lit0t0_344, lit0t0_345, lit0t0_346,
   lit0t0_347, lit0t0_348, lit0t0_349, lit0t0_350, lit0t0_351]

/-- Tables of 128 words each, part 4 of 4. -/
noncomputable def rows2d : List (Nat → BitVec 32) :=
  [lit0t0_352, lit0t0_353, lit0t0_354, lit0t0_355, lit0t0_356, lit0t0_357, lit0t0_358, lit0t0_359, lit0t0_360,
   lit0t0_361, lit0t0_362, lit0t0_363, lit0t0_364, lit0t0_365, lit0t0_366, lit0t0_367, lit0t0_368, lit0t0_369,
   lit0t0_370, lit0t0_371, lit0t0_372, lit0t0_373, lit0t0_374, lit0t0_375, lit0t0_376, lit0t0_377, lit0t0_378,
   lit0t0_379, lit0t0_380, lit0t0_381, lit0t0_382, lit0t0_383]

/-- Every word of these tables is the draw at its index. -/
theorem rows2a_drawn : blocksN rows2a 32768 = true := by decide +kernel

/-- Every word of these tables is the draw at its index. -/
theorem rows2b_drawn : blocksN rows2b 36864 = true := by decide +kernel

/-- Every word of these tables is the draw at its index. -/
theorem rows2c_drawn : blocksN rows2c 40960 = true := by decide +kernel

/-- Every word of these tables is the draw at its index. -/
theorem rows2d_drawn : blocksN rows2d 45056 = true := by decide +kernel

/-- This part of the table reads the lists above. -/
theorem table2_rows (n i : Nat) (hn : n < 128) (h : i / 128 % 128 = n) :
    lit0t1_2 i = (rows2a ++ rows2b ++ rows2c ++ rows2d).getD n (fun _ => 0#32) i := by
  unfold lit0t1_2
  rw [h]
  clear h
  interval_cases n <;> rfl

/-- Every word of this part of the table is the generator's draw at its index. -/
theorem table2_drawn {i : Nat} (hi : i / 16384 = 2) : wordN (lit0t1_2 i).toNat i = true :=
  chunk_spec (k := 2) table2_rows rfl rfl rfl rfl rows2a_drawn rows2b_drawn rows2c_drawn rows2d_drawn hi

end Cert.Hand
-- ==== Proof.Table3.lean ====
module

public import proofs.«01_k».proof.KernelIdeal
public import proofs.«01_k».proof.Proof.TableCheck

/-! The kernel's table at the indices 49152 to 65535: each word is the generator's draw. -/

@[expose] public section

set_option maxRecDepth 100000

namespace Cert.Hand

open Cert.KernelIdeal

/-- Tables of 128 words each, part 1 of 4. -/
noncomputable def rows3a : List (Nat → BitVec 32) :=
  [lit0t0_384, lit0t0_385, lit0t0_386, lit0t0_387, lit0t0_388, lit0t0_389, lit0t0_390, lit0t0_391, lit0t0_392,
   lit0t0_393, lit0t0_394, lit0t0_395, lit0t0_396, lit0t0_397, lit0t0_398, lit0t0_399, lit0t0_400, lit0t0_401,
   lit0t0_402, lit0t0_403, lit0t0_404, lit0t0_405, lit0t0_406, lit0t0_407, lit0t0_408, lit0t0_409, lit0t0_410,
   lit0t0_411, lit0t0_412, lit0t0_413, lit0t0_414, lit0t0_415]

/-- Tables of 128 words each, part 2 of 4. -/
noncomputable def rows3b : List (Nat → BitVec 32) :=
  [lit0t0_416, lit0t0_417, lit0t0_418, lit0t0_419, lit0t0_420, lit0t0_421, lit0t0_422, lit0t0_423, lit0t0_424,
   lit0t0_425, lit0t0_426, lit0t0_427, lit0t0_428, lit0t0_429, lit0t0_430, lit0t0_431, lit0t0_432, lit0t0_433,
   lit0t0_434, lit0t0_435, lit0t0_436, lit0t0_437, lit0t0_438, lit0t0_439, lit0t0_440, lit0t0_441, lit0t0_442,
   lit0t0_443, lit0t0_444, lit0t0_445, lit0t0_446, lit0t0_447]

/-- Tables of 128 words each, part 3 of 4. -/
noncomputable def rows3c : List (Nat → BitVec 32) :=
  [lit0t0_448, lit0t0_449, lit0t0_450, lit0t0_451, lit0t0_452, lit0t0_453, lit0t0_454, lit0t0_455, lit0t0_456,
   lit0t0_457, lit0t0_458, lit0t0_459, lit0t0_460, lit0t0_461, lit0t0_462, lit0t0_463, lit0t0_464, lit0t0_465,
   lit0t0_466, lit0t0_467, lit0t0_468, lit0t0_469, lit0t0_470, lit0t0_471, lit0t0_472, lit0t0_473, lit0t0_474,
   lit0t0_475, lit0t0_476, lit0t0_477, lit0t0_478, lit0t0_479]

/-- Tables of 128 words each, part 4 of 4. -/
noncomputable def rows3d : List (Nat → BitVec 32) :=
  [lit0t0_480, lit0t0_481, lit0t0_482, lit0t0_483, lit0t0_484, lit0t0_485, lit0t0_486, lit0t0_487, lit0t0_488,
   lit0t0_489, lit0t0_490, lit0t0_491, lit0t0_492, lit0t0_493, lit0t0_494, lit0t0_495, lit0t0_496, lit0t0_497,
   lit0t0_498, lit0t0_499, lit0t0_500, lit0t0_501, lit0t0_502, lit0t0_503, lit0t0_504, lit0t0_505, lit0t0_506,
   lit0t0_507, lit0t0_508, lit0t0_509, lit0t0_510, lit0t0_511]

/-- Every word of these tables is the draw at its index. -/
theorem rows3a_drawn : blocksN rows3a 49152 = true := by decide +kernel

/-- Every word of these tables is the draw at its index. -/
theorem rows3b_drawn : blocksN rows3b 53248 = true := by decide +kernel

/-- Every word of these tables is the draw at its index. -/
theorem rows3c_drawn : blocksN rows3c 57344 = true := by decide +kernel

/-- Every word of these tables is the draw at its index. -/
theorem rows3d_drawn : blocksN rows3d 61440 = true := by decide +kernel

/-- This part of the table reads the lists above. -/
theorem table3_rows (n i : Nat) (hn : n < 128) (h : i / 128 % 128 = n) :
    lit0t1_3 i = (rows3a ++ rows3b ++ rows3c ++ rows3d).getD n (fun _ => 0#32) i := by
  unfold lit0t1_3
  rw [h]
  clear h
  interval_cases n <;> rfl

/-- Every word of this part of the table is the generator's draw at its index. -/
theorem table3_drawn {i : Nat} (hi : i / 16384 = 3) : wordN (lit0t1_3 i).toNat i = true :=
  chunk_spec (k := 3) table3_rows rfl rfl rfl rfl rows3a_drawn rows3b_drawn rows3c_drawn rows3d_drawn hi

end Cert.Hand
-- ==== Proof.Table4.lean ====
module

public import proofs.«01_k».proof.KernelIdeal
public import proofs.«01_k».proof.Proof.TableCheck

/-! The kernel's table at the indices 65536 to 81919: each word is the generator's draw. -/

@[expose] public section

set_option maxRecDepth 100000

namespace Cert.Hand

open Cert.KernelIdeal

/-- Tables of 128 words each, part 1 of 4. -/
noncomputable def rows4a : List (Nat → BitVec 32) :=
  [lit0t0_512, lit0t0_513, lit0t0_514, lit0t0_515, lit0t0_516, lit0t0_517, lit0t0_518, lit0t0_519, lit0t0_520,
   lit0t0_521, lit0t0_522, lit0t0_523, lit0t0_524, lit0t0_525, lit0t0_526, lit0t0_527, lit0t0_528, lit0t0_529,
   lit0t0_530, lit0t0_531, lit0t0_532, lit0t0_533, lit0t0_534, lit0t0_535, lit0t0_536, lit0t0_537, lit0t0_538,
   lit0t0_539, lit0t0_540, lit0t0_541, lit0t0_542, lit0t0_543]

/-- Tables of 128 words each, part 2 of 4. -/
noncomputable def rows4b : List (Nat → BitVec 32) :=
  [lit0t0_544, lit0t0_545, lit0t0_546, lit0t0_547, lit0t0_548, lit0t0_549, lit0t0_550, lit0t0_551, lit0t0_552,
   lit0t0_553, lit0t0_554, lit0t0_555, lit0t0_556, lit0t0_557, lit0t0_558, lit0t0_559, lit0t0_560, lit0t0_561,
   lit0t0_562, lit0t0_563, lit0t0_564, lit0t0_565, lit0t0_566, lit0t0_567, lit0t0_568, lit0t0_569, lit0t0_570,
   lit0t0_571, lit0t0_572, lit0t0_573, lit0t0_574, lit0t0_575]

/-- Tables of 128 words each, part 3 of 4. -/
noncomputable def rows4c : List (Nat → BitVec 32) :=
  [lit0t0_576, lit0t0_577, lit0t0_578, lit0t0_579, lit0t0_580, lit0t0_581, lit0t0_582, lit0t0_583, lit0t0_584,
   lit0t0_585, lit0t0_586, lit0t0_587, lit0t0_588, lit0t0_589, lit0t0_590, lit0t0_591, lit0t0_592, lit0t0_593,
   lit0t0_594, lit0t0_595, lit0t0_596, lit0t0_597, lit0t0_598, lit0t0_599, lit0t0_600, lit0t0_601, lit0t0_602,
   lit0t0_603, lit0t0_604, lit0t0_605, lit0t0_606, lit0t0_607]

/-- Tables of 128 words each, part 4 of 4. -/
noncomputable def rows4d : List (Nat → BitVec 32) :=
  [lit0t0_608, lit0t0_609, lit0t0_610, lit0t0_611, lit0t0_612, lit0t0_613, lit0t0_614, lit0t0_615, lit0t0_616,
   lit0t0_617, lit0t0_618, lit0t0_619, lit0t0_620, lit0t0_621, lit0t0_622, lit0t0_623, lit0t0_624, lit0t0_625,
   lit0t0_626, lit0t0_627, lit0t0_628, lit0t0_629, lit0t0_630, lit0t0_631, lit0t0_632, lit0t0_633, lit0t0_634,
   lit0t0_635, lit0t0_636, lit0t0_637, lit0t0_638, lit0t0_639]

/-- Every word of these tables is the draw at its index. -/
theorem rows4a_drawn : blocksN rows4a 65536 = true := by decide +kernel

/-- Every word of these tables is the draw at its index. -/
theorem rows4b_drawn : blocksN rows4b 69632 = true := by decide +kernel

/-- Every word of these tables is the draw at its index. -/
theorem rows4c_drawn : blocksN rows4c 73728 = true := by decide +kernel

/-- Every word of these tables is the draw at its index. -/
theorem rows4d_drawn : blocksN rows4d 77824 = true := by decide +kernel

/-- This part of the table reads the lists above. -/
theorem table4_rows (n i : Nat) (hn : n < 128) (h : i / 128 % 128 = n) :
    lit0t1_4 i = (rows4a ++ rows4b ++ rows4c ++ rows4d).getD n (fun _ => 0#32) i := by
  unfold lit0t1_4
  rw [h]
  clear h
  interval_cases n <;> rfl

/-- Every word of this part of the table is the generator's draw at its index. -/
theorem table4_drawn {i : Nat} (hi : i / 16384 = 4) : wordN (lit0t1_4 i).toNat i = true :=
  chunk_spec (k := 4) table4_rows rfl rfl rfl rfl rows4a_drawn rows4b_drawn rows4c_drawn rows4d_drawn hi

end Cert.Hand
-- ==== Proof.Table5.lean ====
module

public import proofs.«01_k».proof.KernelIdeal
public import proofs.«01_k».proof.Proof.TableCheck

/-! The kernel's table at the indices 81920 to 98303: each word is the generator's draw. -/

@[expose] public section

set_option maxRecDepth 100000

namespace Cert.Hand

open Cert.KernelIdeal

/-- Tables of 128 words each, part 1 of 4. -/
noncomputable def rows5a : List (Nat → BitVec 32) :=
  [lit0t0_640, lit0t0_641, lit0t0_642, lit0t0_643, lit0t0_644, lit0t0_645, lit0t0_646, lit0t0_647, lit0t0_648,
   lit0t0_649, lit0t0_650, lit0t0_651, lit0t0_652, lit0t0_653, lit0t0_654, lit0t0_655, lit0t0_656, lit0t0_657,
   lit0t0_658, lit0t0_659, lit0t0_660, lit0t0_661, lit0t0_662, lit0t0_663, lit0t0_664, lit0t0_665, lit0t0_666,
   lit0t0_667, lit0t0_668, lit0t0_669, lit0t0_670, lit0t0_671]

/-- Tables of 128 words each, part 2 of 4. -/
noncomputable def rows5b : List (Nat → BitVec 32) :=
  [lit0t0_672, lit0t0_673, lit0t0_674, lit0t0_675, lit0t0_676, lit0t0_677, lit0t0_678, lit0t0_679, lit0t0_680,
   lit0t0_681, lit0t0_682, lit0t0_683, lit0t0_684, lit0t0_685, lit0t0_686, lit0t0_687, lit0t0_688, lit0t0_689,
   lit0t0_690, lit0t0_691, lit0t0_692, lit0t0_693, lit0t0_694, lit0t0_695, lit0t0_696, lit0t0_697, lit0t0_698,
   lit0t0_699, lit0t0_700, lit0t0_701, lit0t0_702, lit0t0_703]

/-- Tables of 128 words each, part 3 of 4. -/
noncomputable def rows5c : List (Nat → BitVec 32) :=
  [lit0t0_704, lit0t0_705, lit0t0_706, lit0t0_707, lit0t0_708, lit0t0_709, lit0t0_710, lit0t0_711, lit0t0_712,
   lit0t0_713, lit0t0_714, lit0t0_715, lit0t0_716, lit0t0_717, lit0t0_718, lit0t0_719, lit0t0_720, lit0t0_721,
   lit0t0_722, lit0t0_723, lit0t0_724, lit0t0_725, lit0t0_726, lit0t0_727, lit0t0_728, lit0t0_729, lit0t0_730,
   lit0t0_731, lit0t0_732, lit0t0_733, lit0t0_734, lit0t0_735]

/-- Tables of 128 words each, part 4 of 4. -/
noncomputable def rows5d : List (Nat → BitVec 32) :=
  [lit0t0_736, lit0t0_737, lit0t0_738, lit0t0_739, lit0t0_740, lit0t0_741, lit0t0_742, lit0t0_743, lit0t0_744,
   lit0t0_745, lit0t0_746, lit0t0_747, lit0t0_748, lit0t0_749, lit0t0_750, lit0t0_751, lit0t0_752, lit0t0_753,
   lit0t0_754, lit0t0_755, lit0t0_756, lit0t0_757, lit0t0_758, lit0t0_759, lit0t0_760, lit0t0_761, lit0t0_762,
   lit0t0_763, lit0t0_764, lit0t0_765, lit0t0_766, lit0t0_767]

/-- Every word of these tables is the draw at its index. -/
theorem rows5a_drawn : blocksN rows5a 81920 = true := by decide +kernel

/-- Every word of these tables is the draw at its index. -/
theorem rows5b_drawn : blocksN rows5b 86016 = true := by decide +kernel

/-- Every word of these tables is the draw at its index. -/
theorem rows5c_drawn : blocksN rows5c 90112 = true := by decide +kernel

/-- Every word of these tables is the draw at its index. -/
theorem rows5d_drawn : blocksN rows5d 94208 = true := by decide +kernel

/-- This part of the table reads the lists above. -/
theorem table5_rows (n i : Nat) (hn : n < 128) (h : i / 128 % 128 = n) :
    lit0t1_5 i = (rows5a ++ rows5b ++ rows5c ++ rows5d).getD n (fun _ => 0#32) i := by
  unfold lit0t1_5
  rw [h]
  clear h
  interval_cases n <;> rfl

/-- Every word of this part of the table is the generator's draw at its index. -/
theorem table5_drawn {i : Nat} (hi : i / 16384 = 5) : wordN (lit0t1_5 i).toNat i = true :=
  chunk_spec (k := 5) table5_rows rfl rfl rfl rfl rows5a_drawn rows5b_drawn rows5c_drawn rows5d_drawn hi

end Cert.Hand
-- ==== Proof.Table6.lean ====
module

public import proofs.«01_k».proof.KernelIdeal
public import proofs.«01_k».proof.Proof.TableCheck

/-! The kernel's table at the indices 98304 to 114687: each word is the generator's draw. -/

@[expose] public section

set_option maxRecDepth 100000

namespace Cert.Hand

open Cert.KernelIdeal

/-- Tables of 128 words each, part 1 of 4. -/
noncomputable def rows6a : List (Nat → BitVec 32) :=
  [lit0t0_768, lit0t0_769, lit0t0_770, lit0t0_771, lit0t0_772, lit0t0_773, lit0t0_774, lit0t0_775, lit0t0_776,
   lit0t0_777, lit0t0_778, lit0t0_779, lit0t0_780, lit0t0_781, lit0t0_782, lit0t0_783, lit0t0_784, lit0t0_785,
   lit0t0_786, lit0t0_787, lit0t0_788, lit0t0_789, lit0t0_790, lit0t0_791, lit0t0_792, lit0t0_793, lit0t0_794,
   lit0t0_795, lit0t0_796, lit0t0_797, lit0t0_798, lit0t0_799]

/-- Tables of 128 words each, part 2 of 4. -/
noncomputable def rows6b : List (Nat → BitVec 32) :=
  [lit0t0_800, lit0t0_801, lit0t0_802, lit0t0_803, lit0t0_804, lit0t0_805, lit0t0_806, lit0t0_807, lit0t0_808,
   lit0t0_809, lit0t0_810, lit0t0_811, lit0t0_812, lit0t0_813, lit0t0_814, lit0t0_815, lit0t0_816, lit0t0_817,
   lit0t0_818, lit0t0_819, lit0t0_820, lit0t0_821, lit0t0_822, lit0t0_823, lit0t0_824, lit0t0_825, lit0t0_826,
   lit0t0_827, lit0t0_828, lit0t0_829, lit0t0_830, lit0t0_831]

/-- Tables of 128 words each, part 3 of 4. -/
noncomputable def rows6c : List (Nat → BitVec 32) :=
  [lit0t0_832, lit0t0_833, lit0t0_834, lit0t0_835, lit0t0_836, lit0t0_837, lit0t0_838, lit0t0_839, lit0t0_840,
   lit0t0_841, lit0t0_842, lit0t0_843, lit0t0_844, lit0t0_845, lit0t0_846, lit0t0_847, lit0t0_848, lit0t0_849,
   lit0t0_850, lit0t0_851, lit0t0_852, lit0t0_853, lit0t0_854, lit0t0_855, lit0t0_856, lit0t0_857, lit0t0_858,
   lit0t0_859, lit0t0_860, lit0t0_861, lit0t0_862, lit0t0_863]

/-- Tables of 128 words each, part 4 of 4. -/
noncomputable def rows6d : List (Nat → BitVec 32) :=
  [lit0t0_864, lit0t0_865, lit0t0_866, lit0t0_867, lit0t0_868, lit0t0_869, lit0t0_870, lit0t0_871, lit0t0_872,
   lit0t0_873, lit0t0_874, lit0t0_875, lit0t0_876, lit0t0_877, lit0t0_878, lit0t0_879, lit0t0_880, lit0t0_881,
   lit0t0_882, lit0t0_883, lit0t0_884, lit0t0_885, lit0t0_886, lit0t0_887, lit0t0_888, lit0t0_889, lit0t0_890,
   lit0t0_891, lit0t0_892, lit0t0_893, lit0t0_894, lit0t0_895]

/-- Every word of these tables is the draw at its index. -/
theorem rows6a_drawn : blocksN rows6a 98304 = true := by decide +kernel

/-- Every word of these tables is the draw at its index. -/
theorem rows6b_drawn : blocksN rows6b 102400 = true := by decide +kernel

/-- Every word of these tables is the draw at its index. -/
theorem rows6c_drawn : blocksN rows6c 106496 = true := by decide +kernel

/-- Every word of these tables is the draw at its index. -/
theorem rows6d_drawn : blocksN rows6d 110592 = true := by decide +kernel

/-- This part of the table reads the lists above. -/
theorem table6_rows (n i : Nat) (hn : n < 128) (h : i / 128 % 128 = n) :
    lit0t1_6 i = (rows6a ++ rows6b ++ rows6c ++ rows6d).getD n (fun _ => 0#32) i := by
  unfold lit0t1_6
  rw [h]
  clear h
  interval_cases n <;> rfl

/-- Every word of this part of the table is the generator's draw at its index. -/
theorem table6_drawn {i : Nat} (hi : i / 16384 = 6) : wordN (lit0t1_6 i).toNat i = true :=
  chunk_spec (k := 6) table6_rows rfl rfl rfl rfl rows6a_drawn rows6b_drawn rows6c_drawn rows6d_drawn hi

end Cert.Hand
-- ==== Proof.Table7.lean ====
module

public import proofs.«01_k».proof.KernelIdeal
public import proofs.«01_k».proof.Proof.TableCheck

/-! The kernel's table at the indices 114688 to 131071: each word is the generator's draw. -/

@[expose] public section

set_option maxRecDepth 100000

namespace Cert.Hand

open Cert.KernelIdeal

/-- Tables of 128 words each, part 1 of 4. -/
noncomputable def rows7a : List (Nat → BitVec 32) :=
  [lit0t0_896, lit0t0_897, lit0t0_898, lit0t0_899, lit0t0_900, lit0t0_901, lit0t0_902, lit0t0_903, lit0t0_904,
   lit0t0_905, lit0t0_906, lit0t0_907, lit0t0_908, lit0t0_909, lit0t0_910, lit0t0_911, lit0t0_912, lit0t0_913,
   lit0t0_914, lit0t0_915, lit0t0_916, lit0t0_917, lit0t0_918, lit0t0_919, lit0t0_920, lit0t0_921, lit0t0_922,
   lit0t0_923, lit0t0_924, lit0t0_925, lit0t0_926, lit0t0_927]

/-- Tables of 128 words each, part 2 of 4. -/
noncomputable def rows7b : List (Nat → BitVec 32) :=
  [lit0t0_928, lit0t0_929, lit0t0_930, lit0t0_931, lit0t0_932, lit0t0_933, lit0t0_934, lit0t0_935, lit0t0_936,
   lit0t0_937, lit0t0_938, lit0t0_939, lit0t0_940, lit0t0_941, lit0t0_942, lit0t0_943, lit0t0_944, lit0t0_945,
   lit0t0_946, lit0t0_947, lit0t0_948, lit0t0_949, lit0t0_950, lit0t0_951, lit0t0_952, lit0t0_953, lit0t0_954,
   lit0t0_955, lit0t0_956, lit0t0_957, lit0t0_958, lit0t0_959]

/-- Tables of 128 words each, part 3 of 4. -/
noncomputable def rows7c : List (Nat → BitVec 32) :=
  [lit0t0_960, lit0t0_961, lit0t0_962, lit0t0_963, lit0t0_964, lit0t0_965, lit0t0_966, lit0t0_967, lit0t0_968,
   lit0t0_969, lit0t0_970, lit0t0_971, lit0t0_972, lit0t0_973, lit0t0_974, lit0t0_975, lit0t0_976, lit0t0_977,
   lit0t0_978, lit0t0_979, lit0t0_980, lit0t0_981, lit0t0_982, lit0t0_983, lit0t0_984, lit0t0_985, lit0t0_986,
   lit0t0_987, lit0t0_988, lit0t0_989, lit0t0_990, lit0t0_991]

/-- Tables of 128 words each, part 4 of 4. -/
noncomputable def rows7d : List (Nat → BitVec 32) :=
  [lit0t0_992, lit0t0_993, lit0t0_994, lit0t0_995, lit0t0_996, lit0t0_997, lit0t0_998, lit0t0_999, lit0t0_1000,
   lit0t0_1001, lit0t0_1002, lit0t0_1003, lit0t0_1004, lit0t0_1005, lit0t0_1006, lit0t0_1007, lit0t0_1008,
   lit0t0_1009, lit0t0_1010, lit0t0_1011, lit0t0_1012, lit0t0_1013, lit0t0_1014, lit0t0_1015, lit0t0_1016,
   lit0t0_1017, lit0t0_1018, lit0t0_1019, lit0t0_1020, lit0t0_1021, lit0t0_1022, lit0t0_1023]

/-- Every word of these tables is the draw at its index. -/
theorem rows7a_drawn : blocksN rows7a 114688 = true := by decide +kernel

/-- Every word of these tables is the draw at its index. -/
theorem rows7b_drawn : blocksN rows7b 118784 = true := by decide +kernel

/-- Every word of these tables is the draw at its index. -/
theorem rows7c_drawn : blocksN rows7c 122880 = true := by decide +kernel

/-- Every word of these tables is the draw at its index. -/
theorem rows7d_drawn : blocksN rows7d 126976 = true := by decide +kernel

/-- This part of the table reads the lists above. -/
theorem table7_rows (n i : Nat) (hn : n < 128) (h : i / 128 % 128 = n) :
    lit0t1_7 i = (rows7a ++ rows7b ++ rows7c ++ rows7d).getD n (fun _ => 0#32) i := by
  unfold lit0t1_7
  rw [h]
  clear h
  interval_cases n <;> rfl

/-- Every word of this part of the table is the generator's draw at its index. -/
theorem table7_drawn {i : Nat} (hi : i / 16384 = 7) : wordN (lit0t1_7 i).toNat i = true :=
  chunk_spec (k := 7) table7_rows rfl rfl rfl rfl rows7a_drawn rows7b_drawn rows7c_drawn rows7d_drawn hi

end Cert.Hand
-- ==== Proof.Words.lean ====
module

public import proofs.«01_k».proof.Proof.TableCheck

/-! The random generator on 32-bit words, and that the count on natural numbers follows it. -/

@[expose] public section

namespace Cert.Hand

/-- The two halves of a generator state. -/
abbrev Halves := BitVec 32 × BitVec 32

/-- One round: add, rotate the second half by `r`, exclusive or. -/
def roundW (r : Nat) (x : Halves) : Halves :=
  (x.1 + x.2, (x.1 + x.2) ^^^ (x.2 <<< r ||| x.2 >>> (32 - r)))

/-- A key injection, the `n`-th. -/
def injectW (p q n : BitVec 32) (x : Halves) : Halves := (x.1 + p, x.2 + q + n)

/-- The first, third and fifth group of four rounds. -/
def oddW (p q n : BitVec 32) (x : Halves) : Halves :=
  injectW p q n (roundW 6 (roundW 26 (roundW 15 (roundW 13 x))))

/-- The second and fourth group of four rounds. -/
def evenW (p q n : BitVec 32) (x : Halves) : Halves :=
  injectW p q n (roundW 24 (roundW 16 (roundW 29 (roundW 17 x))))

/-- The generator under the key words `a`, `b` and `c`, from a state to which the first key is already added. -/
def threefryW (a b c : BitVec 32) (x : Halves) : Halves :=
  oddW c a 5#32 (evenW b c 4#32 (oddW a b 3#32 (evenW c a 2#32 (oddW b c 1#32 x))))

/-- A round on naturals is the round on words. -/
theorem roundN_word {α : Type} {r s : Nat} (h : 32 - r = s) (k : Nat → Nat → α) (x : Halves) :
    roundN r s k x.1.toNat x.2.toNat = k (roundW r x).1.toNat (roundW r x).2.toNat := by
  subst h
  have e : (x.1 + x.2).toNat = Nat.mod (Nat.add x.1.toNat x.2.toNat) 4294967296 := BitVec.toNat_add ..
  have f : ((x.1 + x.2) ^^^ (x.2 <<< r ||| x.2 >>> (32 - r))).toNat
      = Nat.xor (x.1 + x.2).toNat (Nat.lor (Nat.mod (Nat.shiftLeft x.2.toNat r) 4294967296)
          (Nat.shiftRight x.2.toNat (32 - r))) := by
    rw [BitVec.toNat_xor, BitVec.toNat_or, BitVec.toNat_shiftLeft, BitVec.toNat_ushiftRight]
    rfl
  simp only [roundN, roundW]
  rw [f, e]

/-- Adding the key on naturals is adding it on words. -/
theorem injectN_word {α : Type} {p q : Nat} {a b n : BitVec 32} (ha : a.toNat = p) (hb : (b + n).toNat = q)
    (k : Nat → Nat → α) (x : Halves) :
    injectN p q k x.1.toNat x.2.toNat = k (injectW a b n x).1.toNat (injectW a b n x).2.toNat := by
  subst ha hb
  simp only [injectN, injectW]
  rw [BitVec.add_assoc, BitVec.toNat_add, BitVec.toNat_add x.2]
  rfl

/-- An odd group of rounds on naturals is the group on words. -/
theorem oddN_word {α : Type} {p q : Nat} {a b n : BitVec 32} (ha : a.toNat = p) (hb : (b + n).toNat = q)
    (k : Nat → Nat → α) (x : Halves) :
    oddN p q k x.1.toNat x.2.toNat = k (oddW a b n x).1.toNat (oddW a b n x).2.toNat := by
  unfold oddN oddW
  rw [roundN_word rfl, roundN_word rfl, roundN_word rfl, roundN_word rfl, injectN_word ha hb]

/-- An even group of rounds on naturals is the group on words. -/
theorem evenN_word {α : Type} {p q : Nat} {a b n : BitVec 32} (ha : a.toNat = p) (hb : (b + n).toNat = q)
    (k : Nat → Nat → α) (x : Halves) :
    evenN p q k x.1.toNat x.2.toNat = k (evenW a b n x).1.toNat (evenW a b n x).2.toNat := by
  unfold evenN evenW
  rw [roundN_word rfl, roundN_word rfl, roundN_word rfl, roundN_word rfl, injectN_word ha hb]

/-- The key words: zero, forty-two, and their exclusive or with the generator's constant. -/
def key0 : BitVec 32 := 0#32
/-- The second key word. -/
def key1 : BitVec 32 := 42#32
/-- The third key word. -/
def key2 : BitVec 32 := 466689008#32

/-- The generator's two words at one index: the state starts from the key words and the index. -/
def drawn (i : Nat) : Halves := threefryW key0 key1 key2 (0#32 + key0, BitVec.ofNat 32 i + key1)

/-- The count on naturals follows the generator. -/
theorem threefryN_drawn {α : Type} (k : Nat → Nat → α) {i : Nat} (hi : i < 131072) :
    threefryN k 0 (Nat.add i 42) = k (drawn i).1.toNat (drawn i).2.toNat := by
  have e : Nat.add i 42 = (BitVec.ofNat 32 i + key1).toNat := by
    rw [BitVec.toNat_add, BitVec.toNat_ofNat]
    simp only [key1, BitVec.toNat_ofNat, Nat.add_eq]
    omega
  have z : (0 : Nat) = (0#32 + key0).toNat := by decide
  rw [e]
  conv_lhs => rw [z]
  unfold threefryN drawn threefryW
  rw [oddN_word (a := key1) (b := key2) (n := 1#32) (by decide) (by decide) _ (0#32 + key0, BitVec.ofNat 32 i + key1),
    evenN_word (a := key2) (b := key0) (n := 2#32) (by decide) (by decide),
    oddN_word (a := key0) (b := key1) (n := 3#32) (by decide) (by decide),
    evenN_word (a := key1) (b := key2) (n := 4#32) (by decide) (by decide),
    oddN_word (a := key2) (b := key0) (n := 5#32) (by decide) (by decide)]

/-- The 23 bits that a number is drawn from. -/
def bits (i : Nat) : BitVec 32 := ((drawn i).1 ^^^ (drawn i).2) >>> 9

/-- What the test of one word says, on naturals. -/
theorem wordN_bits {w i : Nat} (hi : i < 131072) (h : wordN w i = true) :
    (8388608 + w % 8388608) * 2 ^ (w / 8388608) = (bits i).toNat * 2 ^ 127 ∨ (w = 0 ∧ (bits i).toNat = 0) := by
  unfold wordN at h
  rw [threefryN_drawn _ hi] at h
  have e : Nat.shiftRight (Nat.xor (drawn i).1.toNat (drawn i).2.toNat) 9 = (bits i).toNat := by
    unfold bits
    rw [BitVec.toNat_ushiftRight, BitVec.toNat_xor]
    rfl
  simp only [drawN, e, Bool.or_eq_true, Bool.and_eq_true, Nat.beq_eq] at h
  refine h.imp (fun h => ?_) id
  have l (a b : Nat) : Nat.shiftLeft a b = a * 2 ^ b := Nat.shiftLeft_eq a b
  rw [l, l, one_mul] at h
  exact h

end Cert.Hand
-- ==== Proof.ReferenceRun.lean ====
module

public import proofs.«01_k».proof.Proof.Gen.ReferenceIdeal
public import Idealize.ShloMosaic.Lib.StableHlo.RunHlo
public import Idealize.ShloMosaic.Lib.StableHlo.RunRead

/-! The reference's run: its operations as one straight line. -/

@[expose] public section

set_option maxRecDepth 16384

noncomputable section

namespace Cert.ReferenceIdeal.Hand

open Cert.ReferenceIdeal
open Cert.ReferenceIdeal.Gen
open Idealize.ShloMosaic Idealize.ShloMosaic.StableHlo
open Idealize.SL.Sem

section Lines

variable {nD : ℕ} {τ : Topo} {sig : RefSig} {Val : EltTy → Type} {Λ : Labels}

/-- A line followed by a line is the line of both lists. -/
theorem isSeq_append {p : Prog (TpuEff nD τ sig Val Λ .tc) PUnit} {k : PUnit → Prog (TpuEff nD τ sig Val Λ .tc) PUnit}
    {a b : List (HloOp τ sig Val)} (hp : IsSeq p a) (hk : IsSeq (k ⟨⟩) b) : IsSeq (p >>= k) (a ++ b) := by
  unfold IsSeq at *
  rw [seq_append, ← hp, ← hk]

/-- One operation is the line of itself. -/
theorem isSeq_one {op : HloOp τ sig Val} : IsSeq (nD := nD) (Λ := Λ) (hlo rfl op fun _ => .ret (⟨⟩ : PUnit)) [op] := by
  unfold IsSeq
  simp only [seq]
  exact (bind_pure _).symm

end Lines

variable {F : FTy → Type} [FloatOps F]

/-- The first quarter of the generator's operations. -/
def generator0 (arg0 arg1 : TRef sig ⟨S_, .i32⟩) (arg2 arg3 : TRef sig ⟨S64x2048, .i32⟩) (φ : fn_threefry2x32.Bufs) :
    {l : List (HloOp τ sig (Elt F)) // IsSeq (fn_threefry2x32.body_part0 arg0 arg1 arg2 arg3 φ) l} := by
  unfold fn_threefry2x32.body_part0
  apply Subtype.mk
  repeat (first | exact IsSeq.nil | exact isSeq_one | apply IsSeq.cons)

/-- The second quarter of the generator's operations. -/
def generator1 (arg0 arg1 : TRef sig ⟨S_, .i32⟩) (arg2 arg3 : TRef sig ⟨S64x2048, .i32⟩) (φ : fn_threefry2x32.Bufs) :
    {l : List (HloOp τ sig (Elt F)) // IsSeq (fn_threefry2x32.body_part1 arg0 arg1 arg2 arg3 φ) l} := by
  unfold fn_threefry2x32.body_part1
  apply Subtype.mk
  repeat (first | exact IsSeq.nil | exact isSeq_one | apply IsSeq.cons)

/-- The third quarter of the generator's operations. -/
def generator2 (arg0 arg1 : TRef sig ⟨S_, .i32⟩) (arg2 arg3 : TRef sig ⟨S64x2048, .i32⟩) (φ : fn_threefry2x32.Bufs) :
    {l : List (HloOp τ sig (Elt F)) // IsSeq (fn_threefry2x32.body_part2 arg0 arg1 arg2 arg3 φ) l} := by
  unfold fn_threefry2x32.body_part2
  apply Subtype.mk
  repeat (first | exact IsSeq.nil | exact isSeq_one | apply IsSeq.cons)

/-- The last quarter of the generator's operations. -/
def generator3 (arg0 arg1 : TRef sig ⟨S_, .i32⟩) (arg2 arg3 : TRef sig ⟨S64x2048, .i32⟩) (φ : fn_threefry2x32.Bufs) :
    {l : List (HloOp τ sig (Elt F)) // IsSeq (fn_threefry2x32.body_part3 arg0 arg1 arg2 arg3 φ) l} := by
  unfold fn_threefry2x32.body_part3
  apply Subtype.mk
  repeat (first | exact IsSeq.nil | exact isSeq_one | apply IsSeq.cons)

/-- The draw of uniform numbers: the operations before the generator, the generator, and those after it. -/
def uniform (arg0 : TRef sig ⟨S2, .i32⟩) (arg1 arg2 : TRef sig ⟨S_, .f32⟩) (φ : fn_uniform.Bufs) :
    {l : List (HloOp τ sig (Elt F)) // IsSeq (fn_uniform.body arg0 arg1 arg2 φ) l} := by
  unfold fn_uniform.body fn_threefry2x32.body
  apply Subtype.mk
  repeat (first
    | exact IsSeq.nil
    | apply IsSeq.cons
    | refine isSeq_append (isSeq_append (generator0 _ _ _ _ _).2 (isSeq_append (generator1 _ _ _ _ _).2
        (isSeq_append (generator2 _ _ _ _ _).2 (generator3 _ _ _ _ _).2))) ?_)

/-- The choice between a constant and an array. -/
def choose (arg0 : TRef sig ⟨S64x2048, .i1⟩) (arg1 : TRef sig ⟨S_, .i32⟩) (arg2 : TRef sig ⟨S64x2048, .i32⟩)
    (φ : fn_where.Bufs) : {l : List (HloOp τ sig (Elt F)) // IsSeq (fn_where.body arg0 arg1 arg2 φ) l} := by
  unfold fn_where.body
  apply Subtype.mk
  repeat (first | exact IsSeq.nil | apply IsSeq.cons)

/-- The whole reference. -/
def whole (d : Dev nD) : {l : List (HloOp τ sig (Elt F)) // IsSeq (main (F := F) d) l} := by
  unfold main
  apply Subtype.mk
  repeat (first
    | exact IsSeq.nil
    | apply IsSeq.cons
    | refine isSeq_append (uniform _ _ _ _).2 ?_
    | refine isSeq_append (choose _ _ _ _).2 ?_)

end Cert.ReferenceIdeal.Hand
-- ==== Proof.ReferenceGroups.lean ====
module

public import proofs.«01_k».proof.Proof.ReferenceRun
public import proofs.«01_k».proof.Proof.Words
/-! The reference's generator, group by group: what each group of four rounds and a key injection leaves in the two
    buffers of the state, and that it leaves the keys and the arguments alone. -/

@[expose] public section

set_option maxRecDepth 16384
noncomputable section
namespace Cert.ReferenceIdeal.Hand
open Cert.ReferenceIdeal
open Cert.ReferenceIdeal.Gen
open Cert.Hand
open Idealize.ShloMosaic Idealize.ShloMosaic.StableHlo
variable {F : FTy → Type} [FloatOps F]

/-- The operations of group `k`: the first 41 operations of the program come before the groups. -/
def stage (d : Dev nD) (k : Nat) : List (HloOp τ sig (Elt F)) := ((whole d).1.drop (41 + 43 * k)).take 43

/-- A left shift of a word on the host by an amount in range. -/
theorem shl_host (x : BitVec 32) {n : Nat} (h : n < 32) : IntOp.shli .host x (BitVec.ofNat 32 n) = x <<< n := by
  have e : (BitVec.ofNat 32 n).toNat = n := by rw [BitVec.toNat_ofNat]; omega
  unfold IntOp.shli
  rw [if_pos (by rw [e]; exact h), BitVec.shiftLeft_eq', e]

/-- A right shift of a word on the host by an amount in range. -/
theorem shr_host (x : BitVec 32) {n : Nat} (h : n < 32) : IntOp.shrui .host x (BitVec.ofNat 32 n) = x >>> n := by
  have e : (BitVec.ofNat 32 n).toNat = n := by rw [BitVec.toNat_ofNat]; omega
  unfold IntOp.shrui
  rw [if_pos (by rw [e]; exact h), BitVec.ushiftRight_eq', e]

/-- A scalar spread over the array is the scalar everywhere. -/
theorem broadcast_word {α : Type} (dims : Fin S_.rank → Fin S64x2048.rank) (h) (x : S_.Idx → α) :
    broadcastInDim S64x2048 dims h x = fun _ => x (fun a => a.elim0) := by
  funext i
  unfold broadcastInDim
  congr 1
  funext a
  exact a.elim0

/-- Where the first half of the state stands before group `k`. -/
def half0 : Nat → TRef sig ⟨S64x2048, .i32⟩
  | 0 => .of main_call0_call0_v3
  | 1 => .of main_call0_call0_v35
  | 2 => .of main_call0_call0_v69
  | 3 => .of main_call0_call0_v103
  | 4 => .of main_call0_call0_v137
  | _ => .of main_call0_v19_0

/-- Where the second half of the state stands before group `k`. -/
def half1 : Nat → TRef sig ⟨S64x2048, .i32⟩
  | 0 => .of main_call0_call0_v5
  | 1 => .of main_call0_call0_v39
  | 2 => .of main_call0_call0_v73
  | 3 => .of main_call0_call0_v107
  | 4 => .of main_call0_call0_v141
  | _ => .of main_call0_v19_1

/-- The words in an integer buffer. -/
def held {s : Shape} (t : TRef sig ⟨s, .i32⟩) (V : Valuation τ sig (Elt F)) : s.Idx → BitVec 32 :=
  t.ofBuf (V (Proc.devRef .tc t.ref))

/-- The state at one index before group `k`. -/
def state (k : Nat) (V : Valuation τ sig (Elt F)) (i : S64x2048.Idx) : Halves := (held (half0 k) V i, held (half1 k) V i)

/-- The buffers of the state before the first group of rounds. -/
theorem state_0 (V : Valuation τ sig (Elt F)) (i : S64x2048.Idx) :
    state 0 V i = (held (.of main_call0_call0_v3) V i, held (.of main_call0_call0_v5) V i) := rfl
/-- The buffers of the state after 1 group of rounds. -/
theorem state_1 (V : Valuation τ sig (Elt F)) (i : S64x2048.Idx) :
    state 1 V i = (held (.of main_call0_call0_v35) V i, held (.of main_call0_call0_v39) V i) := rfl
/-- The buffers of the state after 2 groups of rounds. -/
theorem state_2 (V : Valuation τ sig (Elt F)) (i : S64x2048.Idx) :
    state 2 V i = (held (.of main_call0_call0_v69) V i, held (.of main_call0_call0_v73) V i) := rfl
/-- The buffers of the state after 3 groups of rounds. -/
theorem state_3 (V : Valuation τ sig (Elt F)) (i : S64x2048.Idx) :
    state 3 V i = (held (.of main_call0_call0_v103) V i, held (.of main_call0_call0_v107) V i) := rfl
/-- The buffers of the state after 4 groups of rounds. -/
theorem state_4 (V : Valuation τ sig (Elt F)) (i : S64x2048.Idx) :
    state 4 V i = (held (.of main_call0_call0_v137) V i, held (.of main_call0_call0_v141) V i) := rfl
/-- The buffers of the state after 5 groups of rounds. -/
theorem state_5 (V : Valuation τ sig (Elt F)) (i : S64x2048.Idx) :
    state 5 V i = (held (.of main_call0_v19_0) V i, held (.of main_call0_v19_1) V i) := rfl

/-- The first key word. -/
def keyA (V : Valuation τ sig (Elt F)) : BitVec 32 := held (s := S_) (.of main_call0_v5) V (fun a => a.elim0)
/-- The second key word. -/
def keyB (V : Valuation τ sig (Elt F)) : BitVec 32 := held (s := S_) (.of main_call0_v7) V (fun a => a.elim0)
/-- The third key word. -/
def keyC (V : Valuation τ sig (Elt F)) : BitVec 32 := held (s := S_) (.of main_call0_call0_v1) V (fun a => a.elim0)

/-- What group `k` does to the state at one index. -/
def groupW (a b c : BitVec 32) : Nat → Halves → Halves
  | 0 => oddW b c 1#32
  | 1 => evenW c a 2#32
  | 2 => oddW a b 3#32
  | 3 => evenW b c 4#32
  | _ => oddW c a 5#32

/-- What a group's operations leave at one index is the group on words. -/
theorem stage_state (d : Dev nD) (V : Valuation τ sig (Elt F)) (i : S64x2048.Idx) (k : Nat) (hk : k < 5) :
    state (k + 1) (after (stage d k) V) i = groupW (keyA V) (keyB V) (keyC V) k (state k V i) := by
  generalize hx : state k V i = x
  generalize ha : keyA V = a
  generalize hb : keyB V = b
  generalize hc : keyC V = c
  obtain ⟨x, y⟩ := x
  simp only [keyA, keyB, keyC, held] at ha hb hc
  interval_cases k <;>
  · simp only [state_0, state_1, state_2, state_3, state_4, held, Prod.mk.injEq] at hx
    simp only [Nat.reduceAdd, state_1, state_2, state_3, state_4, state_5, held, groupW]
    after_reads_simp
    simp (disch := decide) only [TRef.ofBuf_toBuf, broadcast_word, addi, xori, ori, Host.shli, Host.shrui, constantI,
      shl_host, shr_host, hx.1, hx.2, ha, hb, hc, oddW, evenW, roundW, injectW, IntOp.addi, IntOp.xori, IntOp.ori,
      Nat.reduceSub]

/-- A group leaves the key words, the bounds of the draw and the arguments. -/
theorem stage_kept (d : Dev nD) (V : Valuation τ sig (Elt F)) (k : Nat) (hk : k < 5) {r : Ref sig .tc}
    (hr : r ∈ [main_call0_v5, main_call0_v7, main_call0_call0_v1, main_call0_v2, main_call0_v3, main_arg0, main_arg1, main_arg2, main_arg3]) :
    after (stage d k) V (Proc.devRef .tc r) = V (Proc.devRef .tc r) := by
  simp only [List.mem_cons, List.not_mem_nil, or_false] at hr
  interval_cases k <;> rcases hr with h|h|h|h|h|h|h|h|h <;> subst h <;> after_reads_simp

end Cert.ReferenceIdeal.Hand
-- ==== Proof.ReferenceValue.lean ====
module

public import proofs.«01_k».proof.Proof.ReferenceGroups
public import Idealize.ShloMosaic.Lib.ValueIdx
public import Idealize.ShloMosaic.Lib.Pipeline.Value
public import Idealize.ShloMosaic.Lib.Pointwise.TacticCore
public import Idealize.ShloMosaic.Lib.Pointwise.Reshape

/-! What the reference's results hold. -/

@[expose] public section

set_option maxRecDepth 16384

noncomputable section

namespace Cert.ReferenceIdeal.Hand

open Cert.ReferenceIdeal
open Cert.ReferenceIdeal.Gen
open Cert.Hand
open Idealize.ShloMosaic Idealize.ShloMosaic.StableHlo
open Idealize.SL.Sem

variable {F : FTy → Type} [FloatOps F]

/-- The operations that make the key. -/
def keying (d : Dev nD) : List (HloOp τ sig (Elt F)) := (whole d).1.take 20

/-- The operations that count the elements and start the state. -/
def counting (d : Dev nD) : List (HloOp τ sig (Elt F)) := ((whole d).1.drop 20).take 21

/-- The operations after the generator's last group. -/
def back (d : Dev nD) : List (HloOp τ sig (Elt F)) := (whole d).1.drop 256

/-- The contents before group `k`. -/
def before (d : Dev nD) (V : Valuation τ sig (Elt F)) : Nat → Valuation τ sig (Elt F)
  | 0 => after (counting d) (after (keying d) V)
  | k + 1 => after (stage d k) (before d V k)

/-- A line after a line. -/
theorem after_of_append (a b : List (HloOp τ sig (Elt F))) (V : Valuation τ sig (Elt F)) :
    after (a ++ b) V = after b (after a V) := by
  induction a generalizing V with
  | nil => rfl
  | cons op a ih => exact ih _

/-- The state before a group is what the operations before that group leave. -/
theorem before_take (d : Dev nD) (V : Valuation τ sig (Elt F)) (k : Nat) :
    before d V k = after ((whole d).1.take (41 + 43 * k)) V := by
  induction k with
  | zero =>
    rw [before, keying, counting, ← after_of_append, ← List.take_add]
  | succ k ih =>
    have e : 41 + 43 * (k + 1) = (41 + 43 * k) + 43 := by omega
    rw [before, ih, e, List.take_add (i := 41 + 43 * k) (j := 43), after_of_append]
    rfl

/-- The whole run is the front, the five groups and the back. -/
theorem after_whole (d : Dev nD) (V : Valuation τ sig (Elt F)) :
    after (whole d).1 V = after (back d) (before d V 5) := by
  rw [before_take, back, ← after_of_append]
  exact congrArg (after · V) (List.take_append_drop 256 _).symm

/-- The operations that make the two words of the key. -/
def seeding (d : Dev nD) : List (HloOp τ sig (Elt F)) := (whole d).1.take 9

/-- The operations that join them and take them apart again. -/
def joining (d : Dev nD) : List (HloOp τ sig (Elt F)) := ((whole d).1.drop 9).take 11

/-- The operations on the key are those that seed it and those that join it. -/
theorem after_keying (d : Dev nD) (V : Valuation τ sig (Elt F)) :
    after (keying d) V = after (joining d) (after (seeding d) V) := by
  rw [keying, seeding, joining, ← after_of_append, ← List.take_add]

/-- The index of an element, counted row by row. -/
def count (i : S64x2048.Idx) : Nat := 2048 * (i 0).val + (i 1).val

/-- Every count is below the number of elements. -/
theorem count_lt (i : S64x2048.Idx) : count i < 131072 := by
  have h0 : (i 0).val < 64 := (i 0).isLt
  have h1 : (i 1).val < 2048 := (i 1).isLt
  unfold count
  omega

/-- The first element of two joined arrays of one element. -/
theorem pair_first {α : Type} (a b : S1.Idx → α) (hc hs hk) (j : S_.Idx) :
    shapeCast S_ (extractStridedSlice S1 ![0] (concatenate S2 0 [⟨S1, a⟩, ⟨S1, b⟩] hc) hs) hk j = a (ix1 0) := by
  pointwise
  exact concatenate_pair_apply_left 0 a b hc _ rfl (ix1 0) fun x => match x with | ⟨0, _⟩ => rfl

/-- The second element of two joined arrays of one element. -/
theorem pair_second {α : Type} (a b : S1.Idx → α) (hc hs hk) (j : S_.Idx) :
    shapeCast S_ (extractStridedSlice S1 ![1] (concatenate S2 0 [⟨S1, a⟩, ⟨S1, b⟩] hc) hs) hk j = b (ix1 0) := by
  pointwise
  exact concatenate_pair_apply_right 0 a b hc _ rfl rfl (ix1 0) (fun b h => absurd (Subsingleton.elim _ _) h) rfl

/-- The first word of the pair is the first key. -/
theorem joining_keyA (d : Dev nD) (V : Valuation τ sig (Elt F)) :
    keyA (after (joining d) V) = held (s := S1) (.of main_v2) V (ix1 0) := by
  simp only [keyA, held]
  after_reads_simp
  exact pair_first (α := BitVec 32) _ _ concatenates_S1_S1_S2_d0 slices_S2_S1_0 shapeCasts_S1_S_ _

/-- The second word of the pair is the second key. -/
theorem joining_keyB (d : Dev nD) (V : Valuation τ sig (Elt F)) :
    keyB (after (joining d) V) = held (s := S1) (.of main_v5) V (ix1 0) := by
  simp only [keyB, held]
  after_reads_simp
  exact pair_second (α := BitVec 32) _ _ concatenates_S1_S1_S2_d0 slices_S2_S1_1 shapeCasts_S1_S_ _

/-- The first key word is zero. -/
theorem keying_keyA (d : Dev nD) (V : Valuation τ sig (Elt F)) : keyA (after (keying d) V) = key0 := by
  rw [after_keying, joining_keyA]
  simp only [held]
  after_reads_simp
  rfl

/-- The second key word is 42. -/
theorem keying_keyB (d : Dev nD) (V : Valuation τ sig (Elt F)) : keyB (after (keying d) V) = key1 := by
  rw [after_keying, joining_keyB]
  simp only [held]
  after_reads_simp
  rfl

/-- The counting leaves the first key word. -/
theorem counting_keyA (d : Dev nD) (V : Valuation τ sig (Elt F)) : keyA (after (counting d) V) = keyA V := by
  simp only [keyA, held]
  after_reads_simp

/-- The counting leaves the second key word. -/
theorem counting_keyB (d : Dev nD) (V : Valuation τ sig (Elt F)) : keyB (after (counting d) V) = keyB V := by
  simp only [keyB, held]
  after_reads_simp

/-- The third key word is the exclusive or of the two and a constant. -/
theorem counting_keyC (d : Dev nD) (V : Valuation τ sig (Elt F)) :
    keyC (after (counting d) V) = keyA V ^^^ keyB V ^^^ 466688986#32 := by
  simp only [keyA, keyB, keyC, held]
  after_reads_simp
  simp only [TRef.ofBuf_toBuf, xori, constantI, IntOp.xori]

/-- The high word of an element's count is zero. -/
theorem count_high {r c : Nat} (hr : r < 64) (hc : c < 2048) :
    BitVec.setWidth 32 ((2048#64 * BitVec.ofNat 64 r + 1#64 * BitVec.ofNat 64 c) >>> 32) = 0#32 := by
  apply BitVec.eq_of_toNat_eq
  simp only [BitVec.toNat_setWidth, BitVec.toNat_ushiftRight, BitVec.toNat_add, BitVec.toNat_mul, BitVec.toNat_ofNat,
    Nat.shiftRight_eq_div_pow]
  omega

/-- The low word of an element's count is the count. -/
theorem count_low {r c : Nat} (hr : r < 64) (hc : c < 2048) :
    BitVec.setWidth 32 (2048#64 * BitVec.ofNat 64 r + 1#64 * BitVec.ofNat 64 c) = BitVec.ofNat 32 (2048 * r + c) := by
  apply BitVec.eq_of_toNat_eq
  simp only [BitVec.toNat_setWidth, BitVec.toNat_add, BitVec.toNat_mul, BitVec.toNat_ofNat]
  omega

/-- A right shift of a long word on the host by an amount in range. -/
theorem shr_host64 (x : BitVec 64) {n : Nat} (h : n < 64) : IntOp.shrui .host x (BitVec.ofNat 64 n) = x >>> n := by
  have e : (BitVec.ofNat 64 n).toNat = n := by rw [BitVec.toNat_ofNat]; omega
  unfold IntOp.shrui
  rw [if_pos (by rw [e]; exact h), BitVec.ushiftRight_eq', e]

/-- Before the rounds the state at an element is its count, each half with a key word added. -/
theorem counting_state (d : Dev nD) (V : Valuation τ sig (Elt F)) (i : S64x2048.Idx) :
    state 0 (after (counting d) V) i = (0#32 + keyA V, BitVec.ofNat 32 (count i) + keyB V) := by
  generalize ha : keyA V = a
  generalize hb : keyB V = b
  simp only [keyA, keyB, held] at ha hb
  have h0 : (i 0).val < 64 := (i 0).isLt
  have h1 : (i 1).val < 2048 := (i 1).isLt
  simp only [state_0, held]
  after_reads_simp
  simp (disch := decide) only [TRef.ofBuf_toBuf, broadcast_word, addi, muli, trunci, iotaInDim, Host.shrui, constantI, shr_host64, ha, hb,
    IntOp.addi, IntOp.muli, count]
  rw [count_low h0 h1, count_high h0 h1]

/-- The number drawn from 23 bits between the bounds `lo` and `hi`. -/
def draw (lo hi : F .f32) (b : BitVec 32) : F .f32 :=
  FloatOps.maximumf lo (FloatOps.addf (FloatOps.mulf
    (FloatOps.subf (FloatOps.ofBits .f32 (b ||| 0x3F800000#32)) (FloatOps.ofBits .f32 0x3F800000#32))
    (FloatOps.subf hi lo)) lo)

/-- The numbers drawn at every element, between zero and one. -/
def draws : FVec F S64x2048 .f32 := fun i =>
  draw (FloatOps.ofBits .f32 0x00000000#32) (FloatOps.ofBits .f32 0x3F800000#32) (bits (count i))

/-- The array `a` with `k` in the places where the number drawn is below `1 - t` and the padding mask is set. -/
def noise (k : BitVec 32) (a : Vec F S64x2048 .i32) (pad : Vec F S64x2048 .i1) (t : Vec F S64 .f32) : Vec F S64x2048 .i32 :=
  select (andi (cmpf .olt draws (fun i => FloatOps.subf (FloatOps.ofBits .f32 0x3F800000#32) (t (ix1 (i (0 : Fin 2)))))) pad)
    (fun _ => k) a

/-- The threshold of a row, spread over the array. -/
theorem broadcast_rows (h0 h1 h2) (c : S_.Idx → F .f32) (t : S64.Idx → F .f32) :
    broadcastInDim S64x2048 ![0, 1] h0 (subf (broadcastInDim S64x1 ![] h1 c) (broadcastInDim S64x1 ![0] h2 t))
      = fun i => FloatOps.subf (c ix0) (t (ix1 (i (0 : Fin 2)))) := by
  funext i
  pointwise

/-- The last operations on arrays: the draw from the two words, the comparison, the mask and the choice. -/
theorem choice (k : BitVec 32) (x y : IVec S64x2048 32) (lo hi : FVec F S1x1 .f32) (a : Vec F S64x2048 .i32)
    (pad : Vec F S64x2048 .i1) (t : Vec F S64 .f32) (g0 g1 g2 g3 g4 g5)
    (hb : ∀ i, (x i ^^^ y i) >>> 9 = bits (count i))
    (hz : lo = fun _ => FloatOps.ofBits .f32 0x00000000#32) (ho : hi = fun _ => FloatOps.ofBits .f32 0x3F800000#32) :
    select
        (andi
          (cmpf .olt
            (maximumf (broadcastInDim S64x2048 ![0, 1] g0 lo)
              (addf
                (mulf
                  (subf
                    (bitcastToFloat .f32 (ori (Host.shrui (xori x y) (broadcastInDim S64x2048 ![] g1 (constantI S_ 32 9#32)))
                      (broadcastInDim S64x2048 ![] g1 (constantI S_ 32 0x3F800000#32))))
                    (broadcastInDim S64x2048 ![] g1 (constant S_ .f32 0x3F800000#32)))
                  (broadcastInDim S64x2048 ![0, 1] g0 (subf hi lo)))
                (broadcastInDim S64x2048 ![0, 1] g0 lo)))
            (broadcastInDim S64x2048 ![0, 1] g2
              (subf (broadcastInDim S64x1 ![] g3 (constant S_ .f32 0x3F800000#32)) (broadcastInDim S64x1 ![0] g4 t))))
          pad)
        (broadcastInDim S64x2048 ![] g5 (id (constantI S_ 32 k))) a
      = noise k a pad t := by
  rw [broadcast_rows]
  simp only [broadcast_word]
  funext i
  have e : IntOp.shrui .host (x i ^^^ y i) 9#32 = bits (count i) := by rw [shr_host _ (by decide), hb]
  simp only [noise, draws, draw, ← e, hz, ho, select, andi, cmpf, maximumf, addf, mulf, subf, bitcastToFloat, ori, xori, Host.shrui,
    constantI, constant, id, IntOp.xori, IntOp.ori, broadcastInDim]

/-- The first result, from the state after the groups. -/
theorem back_first (d : Dev nD) (W : Valuation τ sig (Elt F))
    (hb : ∀ i, ((state 5 W i).1 ^^^ (state 5 W i).2) >>> 9 = bits (count i))
    (hz : W (Proc.devRef .tc main_call0_v2) = fun _ => FloatOps.ofBits .f32 0x00000000#32)
    (ho : W (Proc.devRef .tc main_call0_v3) = fun _ => FloatOps.ofBits .f32 0x3F800000#32) :
    after (back d) W (Proc.devRef .tc main_v14) = noise 4099#32 (W (Proc.devRef .tc main_arg0))
      (W (Proc.devRef .tc main_arg2)) (W (Proc.devRef .tc main_arg3)) := by
  after_reads_simp
  simp only [TRef.ofBuf_toBuf]
  exact choice 4099#32 _ _ _ _ _ _ _ _ _ _ _ _ _ hb hz ho

/-- The second result, from the state after the groups. -/
theorem back_second (d : Dev nD) (W : Valuation τ sig (Elt F))
    (hb : ∀ i, ((state 5 W i).1 ^^^ (state 5 W i).2) >>> 9 = bits (count i))
    (hz : W (Proc.devRef .tc main_call0_v2) = fun _ => FloatOps.ofBits .f32 0x00000000#32)
    (ho : W (Proc.devRef .tc main_call0_v3) = fun _ => FloatOps.ofBits .f32 0x3F800000#32) :
    after (back d) W (Proc.devRef .tc main_v15) = noise 32#32 (W (Proc.devRef .tc main_arg1))
      (W (Proc.devRef .tc main_arg2)) (W (Proc.devRef .tc main_arg3)) := by
  after_reads_simp
  simp only [TRef.ofBuf_toBuf]
  exact choice 32#32 _ _ _ _ _ _ _ _ _ _ _ _ _ hb hz ho

/-- Before every group the key words are the two words of the key and their exclusive or with a constant. -/
theorem before_keys (d : Dev nD) (V : Valuation τ sig (Elt F)) (k : Nat) (hk : k ≤ 5) :
    keyA (before d V k) = key0 ∧ keyB (before d V k) = key1 ∧ keyC (before d V k) = key2 := by
  induction k with
  | zero =>
    simp only [before]
    rw [counting_keyA, counting_keyB, counting_keyC, keying_keyA, keying_keyB]
    exact ⟨rfl, rfl, by decide⟩
  | succ k ih =>
    obtain ⟨a, b, c⟩ := ih (by omega)
    simp only [before, keyA, keyB, keyC, held]
    rw [stage_kept d _ k (by omega) (by decide), stage_kept d _ k (by omega) (by decide), stage_kept d _ k (by omega) (by decide)]
    exact ⟨a, b, c⟩

/-- After the five groups the state at each element is the generator's two words at the element's count. -/
theorem before_state (d : Dev nD) (V : Valuation τ sig (Elt F)) (i : S64x2048.Idx) :
    state 5 (before d V 5) i = drawn (count i) := by
  have step (k : Nat) (hk : k < 5) :
      state (k + 1) (before d V (k + 1)) i = groupW key0 key1 key2 k (state k (before d V k) i) := by
    obtain ⟨a, b, c⟩ := before_keys d V k (by omega)
    rw [before, stage_state d _ i k hk, a, b, c]
  rw [step 4 (by decide), step 3 (by decide), step 2 (by decide), step 1 (by decide), step 0 (by decide), before,
    counting_state, keying_keyA, keying_keyB]
  rfl

/-- The bounds of the draw and the arguments. -/
theorem before_kept (d : Dev nD) (V : Valuation τ sig (Elt F)) {r : Ref sig .tc}
    (hr : r ∈ [main_call0_v5, main_call0_v7, main_call0_call0_v1, main_call0_v2, main_call0_v3, main_arg0, main_arg1, main_arg2, main_arg3])
    (k : Nat) (hk : k ≤ 5) : before d V k (Proc.devRef .tc r) = before d V 0 (Proc.devRef .tc r) := by
  induction k with
  | zero => rfl
  | succ k ih => exact (stage_kept d _ k (by omega) hr).trans (ih (by omega))

/-- The operations before the groups leave the arguments. -/
theorem start_kept (d : Dev nD) (V : Valuation τ sig (Elt F)) {r : Ref sig .tc}
    (hr : r ∈ [main_arg0, main_arg1, main_arg2, main_arg3]) :
    before d V 0 (Proc.devRef .tc r) = V (Proc.devRef .tc r) := by
  simp only [List.mem_cons, List.not_mem_nil, or_false] at hr
  simp only [before]
  rcases hr with h | h | h | h <;> subst h <;> after_reads_simp

/-- The operations before the groups leave zero as the lower bound. -/
theorem start_low (d : Dev nD) (V : Valuation τ sig (Elt F)) :
    before d V 0 (Proc.devRef .tc main_call0_v2) = fun _ => FloatOps.ofBits .f32 0x00000000#32 := by
  simp only [before]
  after_reads_simp
  rfl

/-- The operations before the groups leave one as the upper bound. -/
theorem start_high (d : Dev nD) (V : Valuation τ sig (Elt F)) :
    before d V 0 (Proc.devRef .tc main_call0_v3) = fun _ => FloatOps.ofBits .f32 0x3F800000#32 := by
  simp only [before]
  after_reads_simp
  rfl

/-- The operations after the groups leave the arguments. -/
theorem back_kept (d : Dev nD) (W : Valuation τ sig (Elt F)) {r : Ref sig .tc}
    (hr : r ∈ [main_arg0, main_arg1, main_arg2, main_arg3]) :
    after (back d) W (Proc.devRef .tc r) = W (Proc.devRef .tc r) := by
  simp only [List.mem_cons, List.not_mem_nil, or_false] at hr
  rcases hr with h | h | h | h <;> subst h <;> after_reads_simp

/-- The program leaves its arguments. -/
theorem whole_kept (d : Dev nD) (V : Valuation τ sig (Elt F)) {r : Ref sig .tc}
    (hr : r ∈ [main_arg0, main_arg1, main_arg2, main_arg3]) :
    after (whole d).1 V (Proc.devRef .tc r) = V (Proc.devRef .tc r) := by
  rw [after_whole, back_kept d _ hr, before_kept d V (by simp only [List.mem_cons] at hr ⊢; tauto) 5 le_rfl, start_kept d V hr]

/-- The first result. -/
theorem whole_first (d : Dev nD) (V : Valuation τ sig (Elt F)) :
    after (whole d).1 V (Proc.devRef .tc main_v14) = noise 4099#32 (V (Proc.devRef .tc main_arg0))
      (V (Proc.devRef .tc main_arg2)) (V (Proc.devRef .tc main_arg3)) := by
  rw [after_whole, back_first d _ (fun i => by rw [before_state]; rfl)
    (by rw [before_kept d V (by decide) 5 le_rfl, start_low]) (by rw [before_kept d V (by decide) 5 le_rfl, start_high])]
  rw [before_kept d V (r := main_arg0) (by decide) 5 le_rfl, before_kept d V (r := main_arg2) (by decide) 5 le_rfl,
    before_kept d V (r := main_arg3) (by decide) 5 le_rfl, start_kept d V (r := main_arg0) (by decide),
    start_kept d V (r := main_arg2) (by decide), start_kept d V (r := main_arg3) (by decide)]

/-- The second result. -/
theorem whole_second (d : Dev nD) (V : Valuation τ sig (Elt F)) :
    after (whole d).1 V (Proc.devRef .tc main_v15) = noise 32#32 (V (Proc.devRef .tc main_arg1))
      (V (Proc.devRef .tc main_arg2)) (V (Proc.devRef .tc main_arg3)) := by
  rw [after_whole, back_second d _ (fun i => by rw [before_state]; rfl)
    (by rw [before_kept d V (by decide) 5 le_rfl, start_low]) (by rw [before_kept d V (by decide) 5 le_rfl, start_high])]
  rw [before_kept d V (r := main_arg1) (by decide) 5 le_rfl, before_kept d V (r := main_arg2) (by decide) 5 le_rfl,
    before_kept d V (r := main_arg3) (by decide) 5 le_rfl, start_kept d V (r := main_arg1) (by decide),
    start_kept d V (r := main_arg2) (by decide), start_kept d V (r := main_arg3) (by decide)]

end Cert.ReferenceIdeal.Hand
-- ==== Proof.DrawnValue.lean ====
module

public import proofs.«01_k».proof.Proof.Words
public import proofs.«01_k».proof.Proof.ReferenceValue
public import Idealize.ShloMosaic.PureOps.Ideal.Laws
public import Idealize.ShloMosaic.Lib.IdealHost

/-! The number that a table word denotes, and the number drawn from the generator's bits, over the extended reals. -/

@[expose] public section

noncomputable section

namespace Cert.Hand

open Idealize.ShloMosaic
open Cert.ReferenceIdeal.Hand (draw)

/-- A positive word with an exponent field strictly between 0 and 255 denotes a normal number. -/
theorem normal_value {w : BitVec 32} (h1 : 8388608 ≤ w.toNat) (h2 : w.toNat < 2139095040) :
    Ideal.ofBits .f32 w
      = ((((8388608 + w.toNat % 8388608 : ℕ) : ℝ) * (2 : ℝ) ^ (((w.toNat / 8388608 : ℕ) : ℤ) - 150) : ℝ) : EReal) := by
  have hs : (w.extractLsb' 31 1 == 1#1) = false := by
    rw [beq_eq_false_iff_ne]
    intro e
    have := congrArg BitVec.toNat e
    rw [BitVec.extractLsb'_toNat, Nat.shiftRight_eq_div_pow] at this
    norm_num at this
    omega
  have he : (w.extractLsb' 23 8).toNat = w.toNat / 8388608 := by
    rw [BitVec.extractLsb'_toNat, Nat.shiftRight_eq_div_pow]
    norm_num
    omega
  have hf : (w.extractLsb' 0 23).toNat = w.toNat % 8388608 := by
    rw [BitVec.extractLsb'_toNat, Nat.shiftRight_eq_div_pow]
    norm_num
  unfold Ideal.ofBits Ideal.ieee
  simp only [hs, he, hf]
  rw [if_neg (by norm_num; omega), if_neg (by omega)]
  norm_num
  ring_nf

/-- The bits that a number is drawn from are 23 bits. -/
theorem bits_lt (i : Nat) : (bits i).toNat < 8388608 := by
  unfold bits
  rw [BitVec.toNat_ushiftRight, Nat.shiftRight_eq_div_pow]
  have := ((drawn i).1 ^^^ (drawn i).2).isLt
  omega

/-- The number drawn from the bits `b` between zero and one is `b / 2^23`. -/
theorem draw_value {b : BitVec 32} (hb : b.toNat < 8388608) :
    draw (F := Ideal) (FloatOps.ofBits .f32 0x00000000#32) (FloatOps.ofBits .f32 0x3F800000#32) b
      = (((b.toNat : ℝ) / 8388608 : ℝ) : EReal) := by
  have e : (b ||| 0x3F800000#32).toNat = 8388608 * 127 + b.toNat := by
    rw [BitVec.toNat_or, Nat.lor_comm]
    exact (Nat.two_pow_add_eq_or_of_lt (i := 23) hb 127).symm
  have x : Ideal.ofBits .f32 (b ||| 0x3F800000#32) = ((1 + (b.toNat : ℝ) / 8388608 : ℝ) : EReal) := by
    rw [normal_value (by omega) (by omega), e]
    congr 1
    rw [show (8388608 * 127 + b.toNat) % 8388608 = b.toNat by omega, show (8388608 * 127 + b.toNat) / 8388608 = 127 by omega]
    push_cast
    norm_num [zpow_neg]
    ring
  unfold draw
  show max (Ideal.ofBits .f32 0x00000000#32) ((Ideal.ofBits .f32 (b ||| 0x3F800000#32) - Ideal.ofBits .f32 0x3F800000#32)
    * (Ideal.ofBits .f32 0x3F800000#32 - Ideal.ofBits .f32 0x00000000#32) + Ideal.ofBits .f32 0x00000000#32) = _
  rw [x, Ideal.ofBits_one_f32, Ideal.ofBits_zero_f32]
  rw [sub_zero, mul_one, add_zero, show (1 : EReal) = ((1 : ℝ) : EReal) from rfl, ← EReal.coe_sub, add_sub_cancel_left]
  exact max_eq_right (by exact_mod_cast (by positivity : (0 : ℝ) ≤ (b.toNat : ℝ) / 8388608))

/-- A word that passes the test at `i` denotes the number drawn at `i`. -/
theorem word_draw {w : BitVec 32} {i : Nat} (hi : i < 131072) (h : wordN w.toNat i = true) :
    Ideal.ofBits .f32 w = draw (F := Ideal) (FloatOps.ofBits .f32 0x00000000#32) (FloatOps.ofBits .f32 0x3F800000#32) (bits i) := by
  have hM := bits_lt i
  rw [draw_value hM]
  rcases wordN_bits hi h with h | ⟨hw, hz⟩
  · generalize (bits i).toNat = M at h hM ⊢
    have hlow : 8388608 ≤ w.toNat := by
      by_contra c
      rw [show w.toNat / 8388608 = 0 by omega] at h
      omega
    have hhigh : w.toNat / 8388608 < 127 := by
      by_contra c
      have := Nat.pow_le_pow_right (n := 2) (by decide) (Nat.le_of_not_lt c)
      have : 8388608 * 2 ^ 127 ≤ (8388608 + w.toNat % 8388608) * 2 ^ (w.toNat / 8388608) := Nat.mul_le_mul (by omega) this
      omega
    rw [normal_value hlow (by omega)]
    congr 1
    have h' : (((8388608 + w.toNat % 8388608 : ℕ) : ℝ)) * (2 : ℝ) ^ (w.toNat / 8388608) = (M : ℝ) * 2 ^ 127 := by exact_mod_cast h
    rw [zpow_sub₀ (by norm_num), zpow_natCast, ← mul_div_assoc, h']
    norm_num
    ring
  · rw [show w = 0x00000000#32 from BitVec.eq_of_toNat_eq hw, Ideal.ofBits_zero_f32, hz]
    norm_num

end Cert.Hand
-- ==== Proof.TableValue.lean ====
module

public import proofs.«01_k».proof.Proof.Table0
public import proofs.«01_k».proof.Proof.Table1
public import proofs.«01_k».proof.Proof.Table2
public import proofs.«01_k».proof.Proof.Table3
public import proofs.«01_k».proof.Proof.Table4
public import proofs.«01_k».proof.Proof.Table5
public import proofs.«01_k».proof.Proof.Table6
public import proofs.«01_k».proof.Proof.Table7
public import proofs.«01_k».proof.Proof.DrawnValue

/-! Every word of the kernel's table denotes the number drawn at its index. -/

@[expose] public section

noncomputable section

namespace Cert.Hand

open Cert.KernelIdeal
open Idealize.ShloMosaic
open Cert.ReferenceIdeal.Hand (draw)

/-- Every word of the table passes the test. -/
theorem table_drawn {i : Nat} (hi : i < 131072) : wordN (lit0t i).toNat i = true := by
  have hk : i / 16384 < 8 := by omega
  unfold lit0t
  generalize hj : i / 16384 = j at hk ⊢
  match j, hk with
  | 0, _ => exact table0_drawn hj
  | 1, _ => exact table1_drawn hj
  | 2, _ => exact table2_drawn hj
  | 3, _ => exact table3_drawn hj
  | 4, _ => exact table4_drawn hj
  | 5, _ => exact table5_drawn hj
  | 6, _ => exact table6_drawn hj
  | 7, _ => exact table7_drawn hj

/-- Every word of the table denotes the number drawn at its index. -/
theorem table_value (i : Fin 131072) :
    Ideal.ofBits .f32 (lit0 i)
      = draw (F := Ideal) (FloatOps.ofBits .f32 0x00000000#32) (FloatOps.ofBits .f32 0x3F800000#32) (bits i.val) :=
  word_draw i.isLt (table_drawn i.isLt)

end Cert.Hand
-- ==== Proof.KernelIdealResult.lean ====
module

public import proofs.«01_k».proof.Proof.KernelIdealRun
public import proofs.«01_k».proof.Proof.TableValue
public import Idealize.ShloMosaic.Lib.StableHlo.RunRead

/-! The kernel's two results, as functions of its arguments. -/

@[expose] public section

set_option maxRecDepth 16384

noncomputable section

namespace Cert.KernelIdeal.Hand

open Cert.KernelIdeal Cert.KernelIdeal.Gen
open Idealize.ShloMosaic Idealize.ShloMosaic.StableHlo Idealize.ShloMosaic.TcCoe
open Cert.Hand

section Blocks

variable {F : FTy → Type} [FloatOps F]
variable (m : (ℓ : Loc nD τ sig) → Buf (Elt F) ℓ)

/-- An offset of zero with steps of one leaves a coordinate. -/
theorem zero_add_one_mul (n : ℕ) : 0 + 1 * n = n := by omega

/-- The one block of input window 0 is the whole of its array. -/
theorem block0 (c : Dev nD) : iblk m c 0 t0_0 = V m c main_arg0 := by
  funext i
  exact congrArg (V m c main_arg0) (funext fun a => Fin.ext (by fin_cases a <;> exact zero_add_one_mul _))

/-- The one block of input window 1 is the whole of its array. -/
theorem block1 (c : Dev nD) : iblk m c 1 t0_0 = V m c main_arg1 := by
  funext i
  exact congrArg (V m c main_arg1) (funext fun a => Fin.ext (by fin_cases a <;> exact zero_add_one_mul _))

/-- The one block of input window 2 is the whole of its array. -/
theorem block2 (c : Dev nD) : iblk m c 2 t0_0 = V m c main_call0_v1 := by
  funext i
  exact congrArg (V m c main_call0_v1) (funext fun a => Fin.ext (by fin_cases a <;> exact zero_add_one_mul _))

/-- The one block of input window 3 is the whole of its array. -/
theorem block3 (c : Dev nD) : iblk m c 3 t0_0 = V m c main_call0_v0 := by
  funext i
  exact congrArg (V m c main_call0_v0) (funext fun a => Fin.ext (by fin_cases a <;> exact zero_add_one_mul _))

/-- The one block of input window 4 is the whole of its array. -/
theorem block4 (c : Dev nD) : iblk m c 4 t0_0 = V m c main_call0_cst := by
  funext i
  exact congrArg (V m c main_call0_cst) (funext fun a => Fin.ext (by fin_cases a <;> exact zero_add_one_mul _))

/-- The padding words are the padding mask, widened. -/
theorem pad_words (c : Dev nD) : V m c main_call0_v1 = extui 32 (m ((c.tc : Thread nD τ).loc main_arg2)) natLt_1_32 := by
  after_reads_simp
  rfl

/-- The table array holds the float of each table word. -/
theorem table_words (c : Dev nD) : V m c main_call0_cst = fun i => FloatOps.ofBits .f32 (lit0 (S64x2048.rowMajor i)) := by
  after_reads_simp
  rfl

/-- The row array holds the vector of times, reshaped. -/
theorem row_words (c : Dev nD) : V m c main_call0_v0 = shapeCast S1x64 (m ((c.tc : Thread nD τ).loc main_arg3)) shapeCasts_S64_S1x64 := by
  after_reads_simp
  rfl

/-- A mask widened to words is the set of its words that are not zero. -/
theorem widened_ne (p : IVec S64x2048 1) :
    cmpi .ne (extui 32 p natLt_1_32) (fun _ => 0#32) = p := by
  funext i
  show IntOp.cmpi .ne (BitVec.setWidth 32 (p i)) 0#32 = p i
  generalize p i = b
  revert b
  decide

/-- The row of thresholds holds the entries of the vector of times. -/
theorem row_entry (t : Vec F S64 .f32) (j : Fin 64) : shapeCast S1x64 t shapeCasts_S64_S1x64 (ix2 (0 : Fin 1) j) = t (ix1 j) := by
  pointwise

/-- The thresholds of that row are one less each entry. -/
theorem thresh_row (t : Vec F S64 .f32) : thresh (shapeCast S1x64 t shapeCasts_S64_S1x64)
    = fun i => FloatOps.subf (FloatOps.ofBits .f32 0x3F800000#32) (t (ix1 (i (0 : Fin 2)))) :=
  funext fun i => congrArg (FloatOps.subf (FloatOps.ofBits .f32 0x3F800000#32)) (row_entry t (i (0 : Fin 2)))

end Blocks

/-- The masked array of the table, the widened mask and the row of times is the reference's. -/
theorem noised_eq (k : BitVec 32) (a : Vec Ideal S64x2048 .i32) (p : Vec Ideal S64x2048 .i1) (t : Vec Ideal S64 .f32) :
    noised (F := Ideal) k a (extui 32 p natLt_1_32) (shapeCast S1x64 t shapeCasts_S64_S1x64)
        (fun i => FloatOps.ofBits (F := Ideal) .f32 (lit0 (S64x2048.rowMajor i)))
      = Cert.ReferenceIdeal.Hand.noise (F := Ideal) k a p t := by
  have ht : (fun i : S64x2048.Idx => (FloatOps.ofBits .f32 (lit0 (S64x2048.rowMajor i)) : Ideal .f32))
      = Cert.ReferenceIdeal.Hand.draws (F := Ideal) := by
    funext i
    refine (table_value _).trans ?_
    unfold Cert.ReferenceIdeal.Hand.draws
    congr 2
    rw [Shape.rowMajor_val_two]
    exact congrArg (· + (i 1).val) (Nat.mul_comm _ _)
  unfold noised masked
  rw [widened_ne, ht, thresh_row]
  rfl

variable (m : (ℓ : Loc nD τ sig) → Buf (Elt Ideal) ℓ)

/-- The first result is the reference's expression of the arguments. -/
theorem first_result (c : Dev nD) : G m c main_v0_0
    = Cert.ReferenceIdeal.Hand.noise (F := Ideal) 4099#32 (m ((c.tc : Thread nD τ).loc main_arg0))
        (m ((c.tc : Thread nD τ).loc main_arg2)) (m ((c.tc : Thread nD τ).loc main_arg3)) := by
  rw [G_S, block0, block2, block3, block4, V_main_arg0, pad_words, row_words, table_words]
  exact noised_eq _ _ _ _

/-- The second result is the reference's expression of the arguments. -/
theorem second_result (c : Dev nD) : G m c main_v0_1
    = Cert.ReferenceIdeal.Hand.noise (F := Ideal) 32#32 (m ((c.tc : Thread nD τ).loc main_arg1))
        (m ((c.tc : Thread nD τ).loc main_arg2)) (m ((c.tc : Thread nD τ).loc main_arg3)) := by
  rw [G_Q, block1, block2, block3, block4, V_main_arg1, pad_words, row_words, table_words]
  exact noised_eq _ _ _ _

end Cert.KernelIdeal.Hand
-- ==== Proof.ReferenceResult.lean ====
module

public import proofs.«01_k».proof.Proof.ReferenceValue

/-! The reference's run: every execution ends with the two results named, and the arguments unchanged. -/

@[expose] public section

set_option maxRecDepth 16384

noncomputable section

namespace Cert.ReferenceIdeal.Hand

open Cert.ReferenceIdeal
open Cert.ReferenceIdeal.Gen
open Idealize.ShloMosaic Idealize.ShloMosaic.StableHlo
open Idealize.SL.Sem

variable {F : FTy → Type} [FloatOps F]

/-- Every operation of the list names the core's own buffers, and determines its results. -/
def Hosted (l : List (HloOp τ sig (Elt F))) : Prop := ∀ op ∈ l, op.bufs ⊆ tcRefs τ sig ∧ op.fresh = ∅

/-- The empty list is such a list. -/
theorem hosted_nil : Hosted ([] : List (HloOp τ sig (Elt F))) := fun _ h => nomatch h

/-- So is a list with such an operation put before it. -/
theorem hosted_cons {op : HloOp τ sig (Elt F)} {l : List (HloOp τ sig (Elt F))} (hb : op.bufs ⊆ tcRefs τ sig)
    (hf : op.fresh = ∅) (hl : Hosted l) : Hosted (op :: l) :=
  List.forall_mem_cons.2 ⟨⟨hb, hf⟩, hl⟩

/-- So is the reference's. -/
theorem whole_hosted (d : Dev nD) : Hosted (whole (F := F) d).1 := by
  repeat (first
    | with_reducible exact hosted_nil
    | refine hosted_cons ?_ rfl ?_
      · first
        | with_reducible exact unary_bufs_sub ..
        | with_reducible exact binary_bufs_sub ..
        | with_reducible exact nullary_bufs_sub ..
        | with_reducible exact ternary_bufs_sub ..
        | with_reducible exact reshape_bufs_sub ..
        | with_reducible exact nary_bufs_sub ..)

/-- The reference's run: it ends with the two results named, its arguments unchanged and its counters at zero. -/
theorem run_value (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD,
        r.2.mem ((c.tc : Thread nD τ).loc main_v14) = noise 4099#32 (m ((c.tc : Thread nD τ).loc main_arg0))
          (m ((c.tc : Thread nD τ).loc main_arg2)) (m ((c.tc : Thread nD τ).loc main_arg3))
        ∧ r.2.mem ((c.tc : Thread nD τ).loc main_v15) = noise 32#32 (m ((c.tc : Thread nD τ).loc main_arg1))
          (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) := by
  have h := run_hlo (defs (F := F)) (main (F := F)) (ops := (whole 0).1) (fun d => (whole d).2) (by decide) (by decide)
    (List.forall_iff_forall_mem.2 fun op ho => (whole_hosted 0 op ho).1) (fun op ho => (whole_hosted 0 op ho).2) m ρ
  refine (θ_run (defs (F := F)) _ _).mono (fun r hr => ⟨fun c => ⟨?_, ?_, ?_, ?_, ?_, ?_⟩, sem_eq_zero_of_no_sems (by decide) r.2⟩) h
  · rw [hr c main_v14, whole_first]
  · rw [hr c main_v15, whole_second]
  · rw [hr c main_arg0, whole_kept _ _ (by decide)]
  · rw [hr c main_arg1, whole_kept _ _ (by decide)]
  · rw [hr c main_arg2, whole_kept _ _ (by decide)]
  · rw [hr c main_arg3, whole_kept _ _ (by decide)]

end Cert.ReferenceIdeal.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.KernelIdealResult
public import proofs.«01_k».proof.Proof.ReferenceResult
public import Idealize.ShloMosaic.Adequacy
public import Idealize.ShloMosaic.Init

@[expose] public section

noncomputable section

namespace Cert.Proof

open Idealize.ShloMosaic Idealize.SL.Sem Cert.Kernel

/-- The kernel on bit patterns ends with its arguments as given and every semaphore at zero. -/
theorem kernel_frame : Cert.quiescent_Kernel := fun m ρ _ => Cert.Kernel.Hand.frame m ρ

/-- The same of the kernel over the extended reals. -/
theorem kernel_ideal_frame : Cert.quiescent_KernelIdeal := fun m ρ _ => Cert.KernelIdeal.Hand.frame m ρ

/-- The same of the reference over the extended reals. -/
theorem reference_frame : Cert.quiescent_ReferenceIdeal := fun m ρ _ =>
  (θ_run Cert.ReferenceIdeal.defs _ _).mono (fun _ h => ⟨fun c => (h.1 c).2.2, h.2⟩)
    (Cert.ReferenceIdeal.Hand.run_value (F := Ideal) m ρ)

/-- Over the extended reals the kernel and the reference leave the same three results on the same arguments: the two
    noised arrays, and the times, which both return as given. -/
theorem results_agree : Cert.algebraic_KernelIdeal_ReferenceIdeal := fun m g m' g' _ hag =>
  ⟨fun c => Cert.KernelIdeal.Hand.G m c Cert.KernelIdeal.main_v0_0, fun c => Cert.KernelIdeal.Hand.G m c Cert.KernelIdeal.main_v0_1,
    fun c => m ((c.tc : Thread Cert.KernelIdeal.nD Cert.KernelIdeal.τ).loc Cert.KernelIdeal.main_arg3),
    (θ_run Cert.KernelIdeal.defs _ _).mono (fun _ h c =>
        have ⟨h0, h1, a0, a1, a2, a3⟩ := h.1 c
        ⟨h0, h1, a3, a0, a1, a2, a3⟩)
      (Cert.KernelIdeal.Hand.run_value (F := Ideal) m g),
    (θ_run Cert.ReferenceIdeal.defs _ _).mono (fun _ h c => by
        obtain ⟨h0, h1, a0, a1, a2, a3⟩ := h.1 c
        obtain ⟨e0, e1, e2, e3⟩ := hag c
        refine ⟨?_, ?_, a3.trans e3, a0, a1, a2, a3⟩
        · rw [h0, e0, e2, e3]
          exact (Cert.KernelIdeal.Hand.first_result m c).symm
        · rw [h1, e1, e2, e3]
          exact (Cert.KernelIdeal.Hand.second_result m c).symm)
      (Cert.ReferenceIdeal.Hand.run_value (F := Ideal) m' g')⟩

/-- The five claims. -/
theorem claim : Cert.Claim := ⟨Cert.Kernel.Gen.facts, Cert.KernelIdeal.Gen.facts, Cert.ReferenceIdeal.Gen.facts,
  kernel_frame, kernel_ideal_frame, reference_frame, trivial, results_agree⟩

end Cert.Proof

end
